-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_zero_over_zero [hPre_no_zero_over_zero : Cert.Pre_no_zero_over_zero.Facts] (m : (ℓ : Loc Cert.KernelIdeal.nD Cert.KernelIdeal.τ Cert.KernelIdeal.sig) → Buf (Elt Ideal) ℓ) : Prop :=
  ∀ c : Dev Cert.KernelIdeal.nD,
    (Cert.Pre_no_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_zero_over_zero [hPre_no_zero_over_zero : Cert.Pre_no_zero_over_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_zero_over_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_zero_over_zero [hKernelIdeal : Cert.KernelIdeal.Facts] [hPre_no_zero_over_zero : Cert.Pre_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_zero_over_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_zero_over_zero [hReferenceIdeal : Cert.ReferenceIdeal.Facts] [hPre_no_zero_over_zero : Cert.Pre_no_zero_over_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_zero_over_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_zero_over_zero [hKernelIdeal : Cert.KernelIdeal.Facts] [hReferenceIdeal : Cert.ReferenceIdeal.Facts] [hPre_no_zero_over_zero : Cert.Pre_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_zero_over_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_zero_over_zero : Cert.Pre_no_zero_over_zero.Facts),
    quiescent_Kernel (hKernel := hKernel)
    ∧ quiescent_KernelIdeal (hKernelIdeal := hKernelIdeal)
    ∧ quiescent_KernelIdeal_pre_no_zero_over_zero (hKernelIdeal := hKernelIdeal) (hPre_no_zero_over_zero := hPre_no_zero_over_zero)
    ∧ quiescent_ReferenceIdeal (hReferenceIdeal := hReferenceIdeal)
    ∧ quiescent_ReferenceIdeal_pre_no_zero_over_zero (hReferenceIdeal := hReferenceIdeal) (hPre_no_zero_over_zero := hPre_no_zero_over_zero)
    ∧ preserves_Kernel_KernelIdeal
    ∧ algebraic_KernelIdeal_ReferenceIdeal_pre_no_zero_over_zero (hKernelIdeal := hKernelIdeal) (hReferenceIdeal := hReferenceIdeal) (hPre_no_zero_over_zero := hPre_no_zero_over_zero)
-- ==== Pre_no_zero_over_zero.lean ====
abbrev S1000000x3 : Shape := ⟨2, ![1000000, 3]⟩
abbrev S3x64 : Shape := ⟨2, ![3, 64]⟩
abbrev S64 : Shape := ⟨1, ![64]⟩
abbrev S64x7 : Shape := ⟨2, ![64, 7]⟩
abbrev S7 : Shape := ⟨1, ![7]⟩
abbrev S3 : Shape := ⟨1, ![3]⟩
abbrev S1x3 : Shape := ⟨2, ![1, 3]⟩
abbrev S_ : Shape := ⟨0, ![]⟩

class Facts : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  bcast_S_S3 : S_.BroadcastsInDim S3 (![] : Fin 0 → Fin S3.rank)

variable [Facts]

def fn {F : FTy → Type} [FloatOps F] (main_arg0 : FVec F S1000000x3 .f32) (main_arg1 : FVec F S3x64 .f32) (main_arg2 : FVec F S64 .f32) (main_arg3 : FVec F S64x7 .f32) (main_arg4 : FVec F S7 .f32) (main_arg5 : FVec F S3 .f32) (main_arg6 : FVec F S3 .f32) : IVec S1000000x3 1 :=
  let main_v0 : FVec F S1x3 .f32 := broadcastInDim S1x3 ![1] bcast_S3_S1x3_1 main_arg5
  let main_v1 : FVec F S1000000x3 .f32 := broadcastInDim S1000000x3 ![0, 1] bcast_S1x3_S1000000x3_0_1 main_v0
  let main_v2 : FVec F S1000000x3 .f32 := subf main_arg0 main_v1
  let main_cst : FVec F S_ .f32 := constant S_ .f32 0x00000000#32
  let main_v3 : FVec F S1000000x3 .f32 := broadcastInDim S1000000x3 ![] bcast_S_S1000000x3 main_cst
  let main_v4 : IVec S1000000x3 1 := cmpf .une main_v2 main_v3
  let main_v5 : FVec F S3 .f32 := subf main_arg6 main_arg5
  let main_cst_0 : FVec F S_ .f32 := constant S_ .f32 0x00000000#32
  let main_v6 : FVec F S3 .f32 := broadcastInDim S3 ![] bcast_S_S3 main_cst_0
  let main_v7 : IVec S3 1 := cmpf .une main_v5 main_v6
  let main_v8 : IVec S1x3 1 := broadcastInDim S1x3 ![1] bcast_S3_S1x3_1 main_v7
  let main_v9 : IVec S1000000x3 1 := broadcastInDim S1000000x3 ![0, 1] bcast_S1x3_S1000000x3_0_1 main_v8
  let main_v10 : IVec S1000000x3 1 := ori main_v4 main_v9
  main_v10
-- ==== Kernel.lean ====
abbrev S1000000x3 : Shape := ⟨2, ![1000000, 3]⟩
abbrev S3x64 : Shape := ⟨2, ![3, 64]⟩
abbrev S64 : Shape := ⟨1, ![64]⟩
abbrev S64x7 : Shape := ⟨2, ![64, 7]⟩
abbrev S7 : Shape := ⟨1, ![7]⟩
abbrev S3 : Shape := ⟨1, ![3]⟩
abbrev S3x1000000 : Shape := ⟨2, ![3, 1000000]⟩
abbrev S64x3 : Shape := ⟨2, ![64, 3]⟩
abbrev S7x64 : Shape := ⟨2, ![7, 64]⟩
abbrev S64x1 : Shape := ⟨2, ![64, 1]⟩
abbrev S7x1 : Shape := ⟨2, ![7, 1]⟩
abbrev S3x1 : Shape := ⟨2, ![3, 1]⟩
abbrev S_ : Shape := ⟨0, ![]⟩
abbrev S1x1000000 : Shape := ⟨2, ![1, 1000000]⟩
abbrev S4x1000000 : Shape := ⟨2, ![4, 1000000]⟩
abbrev S3x32768 : Shape := ⟨2, ![3, 32768]⟩
abbrev S1x32768 : Shape := ⟨2, ![1, 32768]⟩
abbrev S4x32768 : Shape := ⟨2, ![4, 32768]⟩
abbrev S32768 : Shape := ⟨1, ![32768]⟩
abbrev S64x32768 : Shape := ⟨2, ![64, 32768]⟩
abbrev S7x32768 : Shape := ⟨2, ![7, 32768]⟩
abbrev S1000000 : Shape := ⟨1, ![1000000]⟩
abbrev S1000000x4 : Shape := ⟨2, ![1000000, 4]⟩

abbrev nBuf : Space → Nat
  | .hbm => 28
  | .vmem => 14
  | .smem => 0
  | _ => 0

abbrev bufTy : (tb : Table) → Fin (tcTables nBuf tb) → BufTy
  | .hbm, ⟨0, _⟩ => ⟨S1000000x3, .f32⟩
  | .hbm, ⟨1, _⟩ => ⟨S3x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S3, .f32⟩
  | .hbm, ⟨6, _⟩ => ⟨S3, .f32⟩
  | .hbm, ⟨7, _⟩ => ⟨S3x1000000, .f32⟩
  | .hbm, ⟨8, _⟩ => ⟨S64x3, .f32⟩
  | .hbm, ⟨9, _⟩ => ⟨S7x64, .f32⟩
  | .hbm, ⟨10, _⟩ => ⟨S64x1, .f32⟩
  | .hbm, ⟨11, _⟩ => ⟨S7x1, .f32⟩
  | .hbm, ⟨12, _⟩ => ⟨S3x1, .f32⟩
  | .hbm, ⟨13, _⟩ => ⟨S3x1, .f32⟩
  | .hbm, ⟨14, _⟩ => ⟨S3x1, .f32⟩
  | .hbm, ⟨15, _⟩ => ⟨S_, .f32⟩
  | .hbm, ⟨16, _⟩ => ⟨S3x1, .f32⟩
  | .hbm, ⟨17, _⟩ => ⟨S3x1, .f32⟩
  | .hbm, ⟨18, _⟩ => ⟨S1x1000000, .i32⟩
  | .hbm, ⟨19, _⟩ => ⟨S3x1000000, .f32⟩
  | .hbm, ⟨20, _⟩ => ⟨S4x1000000, .f32⟩
  | .hbm, ⟨21, _⟩ => ⟨S_, .i32⟩
  | .hbm, ⟨22, _⟩ => ⟨S1x1000000, .i32⟩
  | .hbm, ⟨23, _⟩ => ⟨S1x1000000, .i1⟩
  | .hbm, ⟨24, _⟩ => ⟨S1x1000000, .i1⟩
  | .hbm, ⟨25, _⟩ => ⟨S1000000, .i1⟩
  | .hbm, ⟨26, _⟩ => ⟨S1000000x3, .f32⟩
  | .hbm, ⟨27, _⟩ => ⟨S1000000x4, .f32⟩
  | .local _ .vmem, ⟨0, _⟩ => ⟨S3x32768, .f32⟩
  | .local _ .vmem, ⟨1, _⟩ => ⟨S3x32768, .f32⟩
  | .local _ .vmem, ⟨2, _⟩ => ⟨S64x3, .f32⟩
  | .local _ .vmem, ⟨3, _⟩ => ⟨S64x1, .f32⟩
  | .local _ .vmem, ⟨4, _⟩ => ⟨S7x64, .f32⟩
  | .local _ .vmem, ⟨5, _⟩ => ⟨S7x1, .f32⟩
  | .local _ .vmem, ⟨6, _⟩ => ⟨S3x1, .f32⟩
  | .local _ .vmem, ⟨7, _⟩ => ⟨S3x1, .f32⟩
  | .local _ .vmem, ⟨8, _⟩ => ⟨S1x32768, .i32⟩
  | .local _ .vmem, ⟨9, _⟩ => ⟨S1x32768, .i32⟩
  | .local _ .vmem, ⟨10, _⟩ => ⟨S3x32768, .f32⟩
  | .local _ .vmem, ⟨11, _⟩ => ⟨S3x32768, .f32⟩
  | .local _ .vmem, ⟨12, _⟩ => ⟨S4x32768, .f32⟩
  | .local _ .vmem, ⟨13, _⟩ => ⟨S4x32768, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32768 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1000000x3 : Shape := ⟨2, ![1000000, 3]⟩
abbrev S3x64 : Shape := ⟨2, ![3, 64]⟩
abbrev S64 : Shape := ⟨1, ![64]⟩
abbrev S64x7 : Shape := ⟨2, ![64, 7]⟩
abbrev S7 : Shape := ⟨1, ![7]⟩
abbrev S3 : Shape := ⟨1, ![3]⟩
abbrev S4 : Shape := ⟨1, ![4]⟩
abbrev S1x3 : Shape := ⟨2, ![1, 3]⟩
abbrev S_ : Shape := ⟨0, ![]⟩
abbrev S1000000 : Shape := ⟨1, ![1000000]⟩
abbrev S1000000x64 : Shape := ⟨2, ![1000000, 64]⟩
abbrev S1x64 : Shape := ⟨2, ![1, 64]⟩
abbrev S1000000x7 : Shape := ⟨2, ![1000000, 7]⟩
abbrev S1x7 : Shape := ⟨2, ![1, 7]⟩
abbrev S1000000x4 : Shape := ⟨2, ![1000000, 4]⟩
abbrev S1000000x1 : Shape := ⟨2, ![1000000, 1]⟩

abbrev nBuf : Space → Nat
  | .hbm => 47
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S3x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S3, .f32⟩
  | .hbm, ⟨6, _⟩ => ⟨S3, .f32⟩
  | .hbm, ⟨7, _⟩ => ⟨S4, .f32⟩
  | .hbm, ⟨8, _⟩ => ⟨S1x3, .f32⟩
  | .hbm, ⟨9, _⟩ => ⟨S1000000x3, .f32⟩
  | .hbm, ⟨10, _⟩ => ⟨S1000000x3, .f32⟩
  | .hbm, ⟨11, _⟩ => ⟨S3, .f32⟩
  | .hbm, ⟨12, _⟩ => ⟨S1x3, .f32⟩
  | .hbm, ⟨13, _⟩ => ⟨S1000000x3, .f32⟩
  | .hbm, ⟨14, _⟩ => ⟨S1000000x3, .f32⟩
  | .hbm, ⟨15, _⟩ => ⟨S_, .f32⟩
  | .hbm, ⟨16, _⟩ => ⟨S1000000x3, .f32⟩
  | .hbm, ⟨17, _⟩ => ⟨S1000000x3, .i1⟩
  | .hbm, ⟨18, _⟩ => ⟨S_, .f32⟩
  | .hbm, ⟨19, _⟩ => ⟨S1000000x3, .f32⟩
  | .hbm, ⟨20, _⟩ => ⟨S1000000x3, .i1⟩
  | .hbm, ⟨21, _⟩ => ⟨S1000000x3, .i1⟩
  | .hbm, ⟨22, _⟩ => ⟨S_, .i1⟩
  | .hbm, ⟨23, _⟩ => ⟨S1000000, .i1⟩
  | .hbm, ⟨24, _⟩ => ⟨S1000000x64, .f32⟩
  | .hbm, ⟨25, _⟩ => ⟨S1x64, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S1000000x7, .f32⟩
  | .hbm, ⟨32, _⟩ => ⟨S1x7, .f32⟩
  | .hbm, ⟨33, _⟩ => ⟨S1000000x7, .f32⟩
  | .hbm, ⟨34, _⟩ => ⟨S1000000x7, .f32⟩
  | .hbm, ⟨35, _⟩ => ⟨S1000000x3, .f32⟩
  | .hbm, ⟨36, _⟩ => ⟨S1000000x4, .f32⟩
  | .hbm, ⟨37, _⟩ => ⟨S1000000x1, .i1⟩
  | .hbm, ⟨38, _⟩ => ⟨S_, .f32⟩
  | .hbm, ⟨39, _⟩ => ⟨S3, .f32⟩
  | .hbm, ⟨40, _⟩ => ⟨S1000000x3, .i1⟩
  | .hbm, ⟨41, _⟩ => ⟨S1000000x3, .f32⟩
  | .hbm, ⟨42, _⟩ => ⟨S1000000x3, .f32⟩
  | .hbm, ⟨43, _⟩ => ⟨S1000000x1, .i1⟩
  | .hbm, ⟨44, _⟩ => ⟨S1000000x4, .i1⟩
  | .hbm, ⟨45, _⟩ => ⟨S1000000x4, .f32⟩
  | .hbm, ⟨46, _⟩ => ⟨S1000000x4, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Frame.lean ====
/-
  The frame of the kernel as it runs, at any float values (the claim is its instance at the machine's words).

  The grid's last block overhangs the long axis: 1000000 = 30 · 32768 + 16960. So at the last point the first window's
  buffer holds words nothing names past the 16960 columns fetched, and what the body computes of them is not named
  either. Nothing of that matters for the frame: no argument of the program is an array the pipeline stages (the
  windows' arrays are the transposed and reshaped copies). Every window is therefore taken FORGOTTEN: the body finds
  some contents in each of its buffers and leaves some contents there.
-/
module

public import proofs.«01_k».proof.Defs
public import proofs.«01_k».proof.Proof.Gen.Kernel.Skeleton
public import proofs.«01_k».proof.Proof.Gen.Kernel.Frame

@[expose] public section

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging memref owned whole, at contents that are not stated. -/
abbrev held (c : Dev nD) {s : Shape} {e : EltTy} (M : Memref sig .tc .vmem s e) : sProp 𝕄 :=
  iprop(∃ X, owns (c : Thread nD τ) M fullShare X)

set_option maxHeartbeats 1000000 in
/-- The kernel body, on whole staging memrefs at any contents, runs to its end without a fault and still owns them all. -/
theorem body_runs (c : Dev nD) (E : Set ℕ) (i : grid0.Coords)
    (a1 : Memref sig .tc .vmem S3x32768 .f32) (h1 : a1.IsWhole) (a2 : Memref sig .tc .vmem S64x3 .f32) (h2 : a2.IsWhole)
    (a3 : Memref sig .tc .vmem S64x1 .f32) (h3 : a3.IsWhole) (a4 : Memref sig .tc .vmem S7x64 .f32) (h4 : a4.IsWhole)
    (a5 : Memref sig .tc .vmem S7x1 .f32) (h5 : a5.IsWhole) (a6 : Memref sig .tc .vmem S3x1 .f32) (h6 : a6.IsWhole)
    (a7 : Memref sig .tc .vmem S3x1 .f32) (h7 : a7.IsWhole) (a8 : Memref sig .tc .vmem S1x32768 .i32) (h8 : a8.IsWhole)
    (a9 : Memref sig .tc .vmem S3x32768 .f32) (h9 : a9.IsWhole) (a10 : Memref sig .tc .vmem S4x32768 .f32) (h10 : a10.IsWhole)
    (K : PUnit → sProp 𝕄) :
    iprop(held c a1 ∗ held c a2 ∗ held c a3 ∗ held c a4 ∗ held c a5 ∗ held c a6 ∗ held c a7 ∗ held c a8 ∗ held c a9 ∗ held c a10
        ∗ (iprop(held c a1 ∗ held c a2 ∗ held c a3 ∗ held c a4 ∗ held c a5 ∗ held c a6 ∗ held c a7 ∗ held c a8 ∗ held c a9 ∗ held c a10) -∗ K ⟨⟩))
      ⊢ wp frame (wpE (defs₀ (F := F)) Variants.none c none) E
          (cc0__wide_kernel i a1 h1 a2 h2 a3 h3 a4 h4 a5 h5 a6 h6 a7 h7 a8 h8 a9 h9 a10 h10) K := by
  simp only [cc0__wide_kernel_eq_skeleton]; unfold cc0__wide_kernel_skel
  simp only [k0_part1_eq_skeleton]
  unfold held owns
  iintro ⟨⟨%X1, %f1, -, H1⟩, ⟨%X2, %f2, -, H2⟩, ⟨%X3, %f3, -, H3⟩, ⟨%X4, %f4, -, H4⟩, ⟨%X5, %f5, -, H5⟩, ⟨%X6, %f6, -, H6⟩,
    ⟨%X7, %f7, -, H7⟩, ⟨%X8, %f8, -, H8⟩, ⟨%X9, %f9, -, H9⟩, ⟨%X10, %f10, -, H10⟩, Hk⟩
  sl_exec
  sl_step
  iapply Hk
  isplitl [H1]; · iexists _; iexists _; isplitr; swap; iexact H1; ipureintro; rfl
  isplitl [H2]; · iexists _; iexists _; isplitr; swap; iexact H2; ipureintro; rfl
  isplitl [H3]; · iexists _; iexists _; isplitr; swap; iexact H3; ipureintro; rfl
  isplitl [H4]; · iexists _; iexists _; isplitr; swap; iexact H4; ipureintro; rfl
  isplitl [H5]; · iexists _; iexists _; isplitr; swap; iexact H5; ipureintro; rfl
  isplitl [H6]; · iexists _; iexists _; isplitr; swap; iexact H6; ipureintro; rfl
  isplitl [H7]; · iexists _; iexists _; isplitr; swap; iexact H7; ipureintro; rfl
  isplitl [H8]; · iexists _; iexists _; isplitr; swap; iexact H8; ipureintro; rfl
  isplitl [H9]; · iexists _; iexists _; isplitr; swap; iexact H9; ipureintro; rfl
  iexists _; iexists _; isplitr; swap; iexact H10; ipureintro; rfl

/-- The proof data: the arrays as the region finds them, nothing named of what the body leaves, the class's invariant,
    nothing owed, full shares. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The body table's row at point `t`'s slots is the body as `bodyAt0` spells it. -/
theorem defs_row (t : Fin cfg0.N) : defs₀ (F := F) .tc cfg0.body (cfg0.bodyArgs t (cfg0.slots t)) = bodyAt0 t := by
  unfold defs₀; rw [Defs.onTc_tc]

/-- What the body runs in at point `t`, and what it leaves there: the invariant, what is owed, and the ten staging buffers,
    each at some contents. -/
abbrev around (c : Dev nD) (t : Fin cfg0.N) (k : Fin (cfg0.N + 1)) : sProp 𝕄 :=
  iprop((dats m 0 c).Φ k ∗ (dats m 0 c).owesAt () k ∗ held c (st0_0 t) ∗ held c (st0_1 t) ∗ held c (st0_2 t) ∗ held c (st0_3 t)
    ∗ held c (st0_4 t) ∗ held c (st0_5 t) ∗ held c (st0_6 t) ∗ held c (st0_7 t) ∗ held c (st0_8 t) ∗ held c (st0_9 t))

/-- One point of the grid, by `body_runs` at the point's staging buffers; the invariant and what is owed pass through. -/
theorem at_point (c : Dev nD) (t : Fin cfg0.N) :
    around (F := F) m c t t.castSucc ⊢ wp frame (wpE (defs₀ (F := F)) Variants.none c none) Set.univ (bodyAt0 t) fun _ =>
      around m c t t.succ := by
  unfold around bodyAt0
  rw [show (dats (F := F) m 0 c).Φ t.succ = (dats m 0 c).Φ t.castSucc from rfl,
    show (dats (F := F) m 0 c).owesAt () t.succ = (dats m 0 c).owesAt () t.castSucc from rfl]
  iintro ⟨HΦ, Ho, H⟩
  iapply (body_runs c Set.univ (grid0.coords t) _ _ _ _ _ _ _ _ _ _ _ _ _ _ _ _ _ _ _ _ _)
  icases H with ⟨H1, H2, H3, H4, H5, H6, H7, H8, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro H
  isplitl [HΦ]; · iexact HΦ
  isplitl [Ho]; · iexact Ho
  iexact H

/-- The library's body obligation with every window forgotten. -/
theorem obligation (c : Dev nD) :
    BodyObligationLoose (dats (F := F) m 0 c) (defs₀ (F := F)) Variants.none () Set.univ (fun _ => true) := fun t => by
  rw [bigSep_W0]
  exact triple_restated (at_point m c t) (by rw [defs_row]) .rfl fun _ => .rfl

/-- The buffers the host lines after the region write. -/
def written : Finset (Ref sig .tc) := {main_c, main_v11, main_v12, main_v13, main_v14, main_v15, main_v16}

/-- Each of those lines writes one of them and nothing else. -/
theorem sfx_writes : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl | rfl | rfl <;>
    (simp only [StableHlo.nullary_writes, StableHlo.unary_writes, StableHlo.binary_writes, StableHlo.reshape_writes,
      Finset.mem_singleton] at hb
     rw [Proc.devRef_injective _ hb]; decide)

/-- What the run is read at: the pipeline's arrays hold their entry contents overwritten by blocks nothing constrains, and
    every other buffer no later line writes holds what the region found there. -/
abbrev Post (r : PUnit × MemSt nD τ sig (Elt F)) : Prop :=
  Pipeline.RDat.FramePostR cfg0 (fun c => (dats m 0 c).toRForget fun _ => true) written (fun c b => V m c b) r

-- `θ_run_frame_around_T_forget`'s implicit arguments are found by unifying its conclusion with this one, which takes
-- unfolding plain definitions in a metavariable's type
set_option backward.isDefEq.respectTransparency.types false in
set_option maxHeartbeats 800000 in
/-- The launch: every weakly fair execution of @main terminates in `Post` with every semaphore counter at zero. -/
theorem run_main : θ_run defs (onTc (τ := τ) (main (F := F))) (s₀ m ρ) (fun r => Post m r ∧ r.2.sem = fun _ => 0) :=
  Pipeline.θ_run_frame_around_T_forget (Q' := _) cfgs (dats m) (0 : Fin 1) launch0 defs₀ Variants.none (fun _ => true) written m ρ main
    (hbody := fun c => obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- A buffer that no window stages and no later line writes ends at what the region found there. -/
theorem rest (b : Ref sig .tc) (hs : b.isScoped = false) (hw : ∀ w, Pipeline.arrRef spec0 w ≠ b) (hT : b ∉ written)
    {r : PUnit × MemSt nD τ sig (Elt F)} (h : Post m r) (c : Dev nD) :
    r.2.mem ((c : Thread nD τ).loc b) = V m c b :=
  (h c).2 b (Finset.mem_sdiff.mpr ⟨Pipeline.mem_restRefs_of b hs hw, hT⟩)

/-- THE FRAME of the kernel: it runs, its arguments end unchanged, and every semaphore counter ends at zero. -/
theorem quiescent : Cert.quiescent_Kernel (hKernel := Cert.Kernel.Gen.facts) := fun m g _ =>
  (θ_run defs _ _).mono (fun _ h => ⟨fun c =>
    ⟨(rest m main_arg0 (by decide) (by decide) (by decide) h.1 c).trans (V_main_arg0 m c),
      (rest m main_arg1 (by decide) (by decide) (by decide) h.1 c).trans (V_main_arg1 m c),
      (rest m main_arg2 (by decide) (by decide) (by decide) h.1 c).trans (V_main_arg2 m c),
      (rest m main_arg3 (by decide) (by decide) (by decide) h.1 c).trans (V_main_arg3 m c),
      (rest m main_arg4 (by decide) (by decide) (by decide) h.1 c).trans (V_main_arg4 m c),
      (rest m main_arg5 (by decide) (by decide) (by decide) h.1 c).trans (V_main_arg5 m c),
      (rest m main_arg6 (by decide) (by decide) (by decide) h.1 c).trans (V_main_arg6 m c)⟩, h.2⟩) (run_main m g)

end Cert.KernelFrame

end
-- ==== Proof.Columns.lean ====
/-
  One COLUMN of the kernel's body. The body works on blocks of 32768 points, one point per column, and every value it
  stores in a column is a function of that column of its input block alone (and of the small operands). This file states
  those functions over the ideal values and proves that the body's payloads are them, column by column.
-/
module

public import proofs.«01_k».proof.Proof.Gen.KernelIdeal.Skeleton
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.Value

@[expose] public section

noncomputable section

namespace Cert.KernelValue

open Cert.KernelIdeal Cert.KernelIdeal.Gen
open Idealize.ShloMosaic Idealize.ShloMosaic.ValueIdx

/-! ## The functions of one point -/

/-- The point `x` scaled into the box: `(x - lo) * inv`, coordinate by coordinate. -/
def scaled (x : Fin 3 → EReal) (lo inv : S3x1.Idx → EReal) (k : Fin 3) : EReal := (x k - lo (ix2 k 0)) * inv (ix2 k 0)

/-- Whether a scaled point lies in the unit box, as a one-bit word. -/
def inBox (p : Fin 3 → EReal) : BitVec 1 := BitVec.ofBool (decide (∀ k, 0 ≤ p k ∧ p k ≤ 1))

/-- The hidden layer at a scaled point: `max (W1 p + b1) 0`. -/
def hidden (p : Fin 3 → EReal) (W1 : S64x3.Idx → EReal) (b1 : S64x1.Idx → EReal) (h : Fin 64) : EReal :=
  max ((∑ k : Fin 3, W1 (ix2 h k) * p k) + b1 (ix2 h 0)) 0

/-- The output layer without its bias: `W2 · hidden`. -/
def linear (p : Fin 3 → EReal) (W1 : S64x3.Idx → EReal) (b1 : S64x1.Idx → EReal) (W2 : S7x64.Idx → EReal) (o : Fin 7) : EReal :=
  ∑ h : Fin 64, W2 (ix2 o h) * hidden p W1 b1 h

/-- The network's seven outputs at a scaled point. -/
def residual (p : Fin 3 → EReal) (W1 : S64x3.Idx → EReal) (b1 : S64x1.Idx → EReal) (W2 : S7x64.Idx → EReal)
    (b2 : S7x1.Idx → EReal) (o : Fin 7) : EReal := linear p W1 b1 W2 o + b2 (ix2 o 0)

/-- The rotation written outside the box: the identity quaternion `(1, 0, 0, 0)`. -/
def unitRot (i : Fin 4) : EReal := if i.val = 0 then 1 else 0

/-! ## Reading the body's vectors at an index -/

/-- A column broadcast along the lanes reads, at `(p, c)`, the column at `p`. -/
theorem column_broadcast {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two-sided test of one scaled coordinate, as the body writes it. -/
theorem test_eq (x : EReal) : IntOp.andi (Ideal.cmp .oge x 0) (Ideal.cmp .ole x 1) = BitVec.ofBool (decide (0 ≤ x ∧ x ≤ 1)) := by
  by_cases h0 : 0 ≤ x <;> by_cases h1 : x ≤ 1 <;> simp [Ideal.cmp, IntOp.andi, h0, h1]

/-- A minimum of ones and zeros is positive exactly when every entry is a one. -/
theorem min_pos (P : Fin 3 → Prop) [DecidablePred P] (t : EReal) (ht : 0 < t) :
    (0 : EReal) < (Finset.univ : Finset (Fin 3)).fold min t (fun k => if P k then (1 : EReal) else 0) ↔ ∀ k, P k := by
  rw [Finset.lt_fold_min]
  constructor
  · rintro ⟨-, h⟩ k
    by_contra hk
    have := h k (Finset.mem_univ k)
    rw [if_neg hk] at this
    exact lt_irrefl _ this
  · intro h
    refine ⟨ht, fun k _ => ?_⟩
    rw [if_pos (h k)]
    exact zero_lt_one

/-- So the comparison of that minimum with zero is the conjunction's bit. -/
theorem min_test (P : Fin 3 → Prop) [DecidablePred P] (t : EReal) (ht : 0 < t) :
    Ideal.cmp .ogt ((Finset.univ : Finset (Fin 3)).fold min t (fun k => if P k then (1 : EReal) else 0)) 0
      = BitVec.ofBool (decide (∀ k, P k)) := by
  have e := min_pos P t ht
  by_cases h : ∀ k, P k
  · simp only [Ideal.cmp]
    rw [decide_eq_true (e.mpr h), decide_eq_true h]
  · simp only [Ideal.cmp]
    rw [decide_eq_false (fun hh => h (e.mp hh)), decide_eq_false h]

/-- A comparison of vectors reads, at an index, the comparison of the elements there. -/
theorem cmp_at {s : Shape} (p : CmpFPredicate) (a b : FVec Ideal s .f32) (i : s.Idx) (x y : EReal) (ha : a i = x) (hb : b i = y) :
    cmpf p a b i = Ideal.cmp p x y := by
  subst ha hb; rfl

/-- The positive infinity's word is a positive ideal value. -/
theorem inf_pos : (0 : EReal) < Ideal.ofBits .f32 0x7F800000#32 := by
  simp [Ideal.ofBits, Ideal.ieee]

/-- The index the minimum's fold reads: row `k`, lane `c`. -/
theorem lift_eq (c : Fin 32768) (k : Fin 3) :
    (reduces_S3x32768_S32768 : S3x32768.Reduces [0] S32768).lift (ix1 c) k = ix2 k c := by
  funext a
  match a with
  | ⟨0, _⟩ => rfl
  | ⟨1, _⟩ => rfl

/-- The minimum over the rows, at a lane: the minimum of the lane's three entries. -/
theorem min_reduce_apply (v : FVec Ideal S3x32768 .f32) (c : Fin 32768) :
    multiReduction .minimumf [0] S32768 v 0x7F800000#32 reduces_S3x32768_S32768 (.inl rfl) rfl (ix1 c)
      = (Finset.univ : Finset (Fin 3)).fold min (Ideal.ofBits .f32 0x7F800000#32) (fun k => v (ix2 k c)) := by
  refine (multiReduction_minimumf_eq_fold v _ _ _ _ _).trans ?_
  refine ((reduces_S3x32768_S32768 : S3x32768.Reduces [0] S32768).fold_filter_drop_single _ _ v (ix1 c)).trans ?_
  exact congrArg (fun f => Finset.fold min (Ideal.ofBits .f32 0x7F800000#32) f (Finset.univ : Finset (Fin 3)))
    (funext fun k => congrArg v (lift_eq c k))

/-! ## The payloads -/

/-- The scaled block. -/
theorem pay5_eq (x : S3x32768.Idx → EReal) (lo inv : S3x1.Idx → EReal) (k : Fin 3) (c : Fin 32768) :
    k0_pay5 (F := Ideal) x lo inv (ix2 k c) = scaled (fun k => x (ix2 k c)) lo inv k := by
  unfold k0_pay5 scaled
  simp only [shapeCast_self]
  rw [Idealize.ShloMosaic.ValueIdx.mulf_apply, subf_apply, column_broadcast, column_broadcast]

/-- The mask's one or zero of one coordinate of a column. -/
theorem flag_eq (x : S3x32768.Idx → EReal) (lo inv : S3x1.Idx → EReal) (k : Fin 3) (c : Fin 32768) :
    (select (andi (cmpf .oge (k0_pay5 (F := Ideal) x lo inv) (broadcast S3x32768 (Scalar.ofBits .f32 0x00000000#32)))
        (cmpf .ole (k0_pay5 (F := Ideal) x lo inv) (broadcast S3x32768 (Scalar.ofBits .f32 0x3F800000#32))))
        (broadcast S3x32768 (Scalar.ofBits (F := Ideal) .f32 0x3F800000#32))
        (broadcast S3x32768 (Scalar.ofBits (F := Ideal) .f32 0x00000000#32)) : FVec Ideal S3x32768 .f32) (ix2 k c)
      = if 0 ≤ scaled (fun k => x (ix2 k c)) lo inv k ∧ scaled (fun k => x (ix2 k c)) lo inv k ≤ 1 then (1 : EReal) else 0 := by
  rw [select_apply]
  have e0 : Scalar.ofBits (F := Ideal) .f32 0x00000000#32 = (0 : EReal) := Ideal.ofBits_zero_f32
  have e1 : Scalar.ofBits (F := Ideal) .f32 0x3F800000#32 = (1 : EReal) := Ideal.ofBits_one_f32
  rw [e0, e1]
  change Scalar.select (IntOp.andi (Ideal.cmp .oge (k0_pay5 (F := Ideal) x lo inv (ix2 k c)) 0)
    (Ideal.cmp .ole (k0_pay5 (F := Ideal) x lo inv (ix2 k c)) 1)) (1 : EReal) 0 = _
  rw [pay5_eq, test_eq]
  split
  · next h => rw [decide_eq_true h]; rfl
  · next h => rw [decide_eq_false h]; rfl

/-- The mask's word of each column. -/
theorem pay6_eq (x : S3x32768.Idx → EReal) (lo inv : S3x1.Idx → EReal) (c : Fin 32768) :
    k0_pay6 (F := Ideal) x lo inv (ix2 (0 : Fin 1) c) = inBox (scaled (fun k => x (ix2 k c)) lo inv) := by
  unfold k0_pay6
  refine (shapeCast_a_1a_apply _ _ _ _).trans ?_
  have e := min_test (fun k => 0 ≤ scaled (fun k => x (ix2 k c)) lo inv k ∧ scaled (fun k => x (ix2 k c)) lo inv k ≤ 1) _ inf_pos
  have hr := (min_reduce_apply _ c).trans
    (congrArg (fun f => Finset.fold min (Ideal.ofBits .f32 0x7F800000#32) f Finset.univ) (funext fun k => flag_eq x lo inv k c))
  refine Eq.trans ?_ e
  have e0 : broadcast S32768 (Scalar.ofBits (F := Ideal) .f32 0x00000000#32) (ix1 c) = (0 : EReal) := Ideal.ofBits_zero_f32
  exact cmp_at .ogt _ _ _ _ _ hr e0

/-- The first layer's activations of each column. -/
theorem hidden_eq (x : S3x32768.Idx → EReal) (lo inv : S3x1.Idx → EReal) (W1 : S64x3.Idx → EReal) (b1 : S64x1.Idx → EReal)
    (h : Fin 64) (c : Fin 32768) :
    (maximumf (addf (matmul (F := Ideal) (φ₁ := .f32) (φ₂ := .f32) dot_S64x3_S3x32768_S64x32768_1_0_0_1_n_n none (W1 : FVec Ideal S64x3 .f32) (k0_pay5 (F := Ideal) x lo inv)
        (constant S64x32768 .f32 0x00000000#32)) (broadcastTo S64x32768 b1 broadcasts_S64x1_S64x32768))
        (broadcast S64x32768 (Scalar.ofBits (F := Ideal) .f32 0x00000000#32)) : FVec Ideal S64x32768 .f32) (ix2 h c)
      = hidden (scaled (fun k => x (ix2 k c)) lo inv) W1 b1 h := by
  rw [maximumf_apply, addf_apply, column_broadcast]
  have e := Ideal.matmul_plain_apply (M := 64) (K := 3) (N := 32768) (φ₁ := .f32) (φ₂ := .f32) none W1 (k0_pay5 (F := Ideal) x lo inv)
    (constant S64x32768 .f32 0x00000000#32) h c
  have e0 : (constant (F := Ideal) S64x32768 .f32 0x00000000#32) (ix2 h c) = (0 : EReal) := Ideal.ofBits_zero_f32
  have e1 : broadcast S64x32768 (Scalar.ofBits (F := Ideal) .f32 0x00000000#32) (ix2 h c) = (0 : EReal) := Ideal.ofBits_zero_f32
  rw [e0, zero_add] at e
  rw [e1]
  unfold hidden
  refine congrArg (fun z => max (z + b1 (ix2 h 0)) 0) (e.trans ?_)
  exact Finset.sum_congr rfl fun k _ => by rw [pay5_eq]

/-- The second layer's products of each column. -/
theorem pay7_eq (x : S3x32768.Idx → EReal) (lo inv : S3x1.Idx → EReal) (W1 : S64x3.Idx → EReal) (b1 : S64x1.Idx → EReal)
    (W2 : S7x64.Idx → EReal) (o : Fin 7) (c : Fin 32768) :
    k0_pay7 (F := Ideal) x lo inv W1 b1 W2 (ix2 o c) = linear (scaled (fun k => x (ix2 k c)) lo inv) W1 b1 W2 o := by
  unfold k0_pay7
  simp only [shapeCast_self]
  have e0 : (constant (F := Ideal) S7x32768 .f32 0x00000000#32) (ix2 o c) = (0 : EReal) := Ideal.ofBits_zero_f32
  refine (Ideal.matmul_plain_apply (M := 7) (K := 64) (N := 32768) none W2 _ (constant S7x32768 .f32 0x00000000#32) o c).trans ?_
  rw [e0, zero_add]
  unfold linear
  exact Finset.sum_congr rfl fun h _ => congrArg (W2 (ix2 o h) * ·) (hidden_eq x lo inv W1 b1 h c)

/-- The bias added. -/
theorem pay1_eq (v : S7x32768.Idx → EReal) (b2 : S7x1.Idx → EReal) (o : Fin 7) (c : Fin 32768) :
    k0_pay1 (F := Ideal) v b2 (ix2 o c) = v (ix2 o c) + b2 (ix2 o 0) := by
  unfold k0_pay1
  rw [addf_apply, column_broadcast]

/-- The displacement's rows: the first three outputs inside the box, zero outside. -/
theorem pay2_eq (g : S1x32768.Idx → BitVec 1) (v : S7x32768.Idx → EReal) (b2 : S7x1.Idx → EReal) (i : Fin 3) (c : Fin 32768) :
    k0_pay2 (F := Ideal) g v b2 (ix2 i c)
      = Scalar.select (g (ix2 0 c)) (v (ix2 (i.castLE (by decide)) c) + b2 (ix2 (i.castLE (by decide)) 0)) (0 : EReal) := by
  unfold k0_pay2
  simp only [shapeCast_self]
  rw [select_apply, broadcastTo_1b_ab_apply, slice2_axis0_apply (n0 := 7) (k := i.castLE (by decide)) (hk := (Nat.zero_add _).symm), pay1_eq]
  exact congrArg _ Ideal.ofBits_zero_f32

/-- The table of the identity quaternion, as the body computes it from the row number. -/
theorem unitRot_eq (i : Fin 4) (c : Fin 32768) :
    (sitofp .f32 (extui 32 (cmpi .eq (iota .tc S4x32768 32 [0] iota_S4x32768_d0_w32) (broadcast S4x32768 0#32)) natLt_1_32) :
      FVec Ideal S4x32768 .f32) (ix2 i c) = unitRot i := by
  rw [sitofp_apply, extui_apply]
  change FloatOps.sitofp .f32 ((IntOp.cmpi .eq (iota .tc S4x32768 32 [0] iota_S4x32768_d0_w32 (ix2 i c)) 0#32).setWidth 32) = _
  rw [iota_single_apply]
  change FloatOps.sitofp .f32 ((IntOp.cmpi .eq (BitVec.ofNat 32 i.val) 0#32).setWidth 32) = _
  unfold unitRot
  change (((((IntOp.cmpi .eq (BitVec.ofNat 32 i.val) 0#32).setWidth 32).toInt : ℝ)) : EReal) = _
  fin_cases i <;> simp [IntOp.cmpi]

/-- The rotation's rows: the last four outputs inside the box, the identity quaternion outside. -/
theorem pay3_eq (g : S1x32768.Idx → BitVec 1) (v : S7x32768.Idx → EReal) (b2 : S7x1.Idx → EReal) (i : Fin 4) (c : Fin 32768) :
    k0_pay3 (F := Ideal) g v b2 (ix2 i c)
      = Scalar.select (g (ix2 0 c)) (v (ix2 (i.natAdd 3) c) + b2 (ix2 (i.natAdd 3) 0)) (unitRot i) := by
  unfold k0_pay3
  simp only [shapeCast_self]
  rw [select_apply, broadcastTo_1b_ab_apply, slice2_axis0_apply (n0 := 7) (k := i.natAdd 3) (hk := rfl), pay1_eq, unitRot_eq]

/-- The second bias reaches the sum as it was loaded. -/
theorem pay8_eq (b2 : S7x1.Idx → EReal) : k0_pay8 (F := Ideal) b2 = b2 := by
  unfold k0_pay8
  exact shapeCast_self _ _

end Cert.KernelValue

end
-- ==== Proof.Blocks.lean ====
/-
  WHERE the blocks lie. Point `t` of the grid works on the columns `32768 t, …` of the long arrays; the last point's block
  is cut at the arrays' end (1000000 = 30 · 32768 + 16960). This file reads the four windows that move over the long axis
  — the input's and the three outputs' — at an index, and states which columns a block covers.
-/
module

public import proofs.«01_k».proof.Proof.Columns
public import proofs.«01_k».proof.Proof.Gen.KernelIdeal.Frame

@[expose] public section

noncomputable section

namespace Cert.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- How many columns of point `t`'s block lie inside the arrays. -/
def width (t : Fin cfg0.N) : ℕ := if t.val < 30 then 32768 else 16960

theorem width_le (t : Fin cfg0.N) : width t ≤ 32768 := by unfold width; split <;> omega

/-- Column `j` of point `t`'s block is column `32768 t + j` of the arrays, which is one of them if `j` is inside. -/
theorem place_lt (t : Fin cfg0.N) {j : ℕ} (hj : j < width t) : t.val * 32768 + j < 1000000 := by
  have ht : t.val < 31 := t.isLt
  unfold width at hj; split at hj <;> omega

/-- That column. -/
def place (t : Fin cfg0.N) (j : ℕ) (hj : j < width t) : Fin 1000000 := ⟨t.val * 32768 + j, place_lt t hj⟩

/-! ## The four windows' offsets and sizes -/

theorem offset_0 : ∀ t : Fin cfg0.N, win0_0.index t 0 * 3 = 0 ∧ win0_0.index t 1 * 32768 = t.val * 32768
    ∧ win0_0.xsize (grid0.coords t) 0 = 3 ∧ win0_0.xsize (grid0.coords t) 1 = width t := by decide +kernel
theorem offset_7 : ∀ t : Fin cfg0.N, win0_7.index t 0 * 1 = 0 ∧ win0_7.index t 1 * 32768 = t.val * 32768
    ∧ win0_7.xsize (grid0.coords t) 0 = 1 ∧ win0_7.xsize (grid0.coords t) 1 = width t := by decide +kernel
theorem offset_8 : ∀ t : Fin cfg0.N, win0_8.index t 0 * 3 = 0 ∧ win0_8.index t 1 * 32768 = t.val * 32768
    ∧ win0_8.xsize (grid0.coords t) 0 = 3 ∧ win0_8.xsize (grid0.coords t) 1 = width t := by decide +kernel
theorem offset_9 : ∀ t : Fin cfg0.N, win0_9.index t 0 * 4 = 0 ∧ win0_9.index t 1 * 32768 = t.val * 32768
    ∧ win0_9.xsize (grid0.coords t) 0 = 4 ∧ win0_9.xsize (grid0.coords t) 1 = width t := by decide +kernel

/-- A block of the input read at an index of its part inside the array: row `k` of the block's column. -/
theorem read_0 (t : Fin cfg0.N) (A : S3x1000000.Idx → EReal) (j : (win0_0.xblock (grid0.coords t)).Idx) (k : Fin 3)
    (hk : (j 0).val = k.val) (h : (j 1).val < width t) :
    (win0_0.blk t).view.read (Elt Ideal) A j = A (ix2 k (place t (j 1).val h)) := by
  change A ((win0_0.rect t).emb j) = _
  refine congrArg A (funext fun a => Fin.ext ?_)
  rw [Rect.emb_apply]
  match a with
  | ⟨0, _⟩ => exact (congrArg (· + 1 * (j 0).val) (offset_0 t).1).trans (by show 0 + 1 * (j 0).val = k.val; omega)
  | ⟨1, _⟩ => exact (congrArg (· + 1 * (j 1).val) (offset_0 t).2.1).trans (by show _ + 1 * (j 1).val = t.val * 32768 + (j 1).val; omega)

/-- An output block read at an index: the same, of the mask's array, -/
theorem read_7 (t : Fin cfg0.N) (A : S1x1000000.Idx → BitVec 32) (j : (win0_7.xblock (grid0.coords t)).Idx) (h : (j 1).val < width t) :
    (win0_7.blk t).view.read (Elt Ideal) A j = A (ix2 (0 : Fin 1) (place t (j 1).val h)) := by
  change A ((win0_7.rect t).emb j) = _
  refine congrArg A (funext fun a => Fin.ext ?_)
  rw [Rect.emb_apply]
  have h0 : (j 0).val < 1 := (j 0).isLt.trans_eq (offset_7 t).2.2.1
  match a with
  | ⟨0, _⟩ => exact (congrArg (· + 1 * (j 0).val) (offset_7 t).1).trans (by show 0 + 1 * (j 0).val = 0; omega)
  | ⟨1, _⟩ => exact (congrArg (· + 1 * (j 1).val) (offset_7 t).2.1).trans (by show _ + 1 * (j 1).val = t.val * 32768 + (j 1).val; omega)

/-- of the displacement's, -/
theorem read_8 (t : Fin cfg0.N) (A : S3x1000000.Idx → EReal) (j : (win0_8.xblock (grid0.coords t)).Idx) (k : Fin 3)
    (hk : (j 0).val = k.val) (h : (j 1).val < width t) :
    (win0_8.blk t).view.read (Elt Ideal) A j = A (ix2 k (place t (j 1).val h)) := by
  change A ((win0_8.rect t).emb j) = _
  refine congrArg A (funext fun a => Fin.ext ?_)
  rw [Rect.emb_apply]
  match a with
  | ⟨0, _⟩ => exact (congrArg (· + 1 * (j 0).val) (offset_8 t).1).trans (by show 0 + 1 * (j 0).val = k.val; omega)
  | ⟨1, _⟩ => exact (congrArg (· + 1 * (j 1).val) (offset_8 t).2.1).trans (by show _ + 1 * (j 1).val = t.val * 32768 + (j 1).val; omega)

/-- and of the rotation's. -/
theorem read_9 (t : Fin cfg0.N) (A : S4x1000000.Idx → EReal) (j : (win0_9.xblock (grid0.coords t)).Idx) (k : Fin 4)
    (hk : (j 0).val = k.val) (h : (j 1).val < width t) :
    (win0_9.blk t).view.read (Elt Ideal) A j = A (ix2 k (place t (j 1).val h)) := by
  change A ((win0_9.rect t).emb j) = _
  refine congrArg A (funext fun a => Fin.ext ?_)
  rw [Rect.emb_apply]
  match a with
  | ⟨0, _⟩ => exact (congrArg (· + 1 * (j 0).val) (offset_9 t).1).trans (by show 0 + 1 * (j 0).val = k.val; omega)
  | ⟨1, _⟩ => exact (congrArg (· + 1 * (j 1).val) (offset_9 t).2.1).trans (by show _ + 1 * (j 1).val = t.val * 32768 + (j 1).val; omega)

/-- The input's buffer after the fetch at point `t`, whatever `d` it holds past the array's end: a column inside the array is
    that column of the array. -/
theorem fetched_column (t : Fin cfg0.N) (A : S3x1000000.Idx → EReal) (d : S3x32768.Idx → EReal) (j : Fin 32768) (h : j.val < width t) :
    (fun k : Fin 3 => win0_0.fill (grid0.coords t) d ((win0_0.blk t).view.read (Elt Ideal) A) (ix2 k j))
      = fun k => A (ix2 k (place t j.val h)) := by
  funext k
  have hm : ∀ a, ((ix2 k j : S3x32768.Idx) a).val < win0_0.xsize (grid0.coords t) a := fun a => by
    match a with
    | ⟨0, _⟩ => exact k.isLt.trans_eq (offset_0 t).2.2.1.symm
    | ⟨1, _⟩ => exact h.trans_eq (offset_0 t).2.2.2.symm
  unfold Window.fill
  rw [dif_pos ((win0_0.moved_iff (grid0.coords t) (ix2 k j)).mpr hm)]
  exact read_0 t A _ k rfl h

/-! ## The blocks cover the columns -/

/-- An index of the mask's array is in point `t`'s block exactly if its column is. -/
theorem mem_7 (t : Fin cfg0.N) (i : S1x1000000.Idx) :
    i ∈ (win0_7.blk t).view.setOn Finset.univ ↔ t.val * 32768 ≤ (i 1).val ∧ (i 1).val < t.val * 32768 + width t := by
  rw [View.setOn_univ]
  show i ∈ ((View.whole main_v10_0).slice (win0_7.rect t)).set ↔ _
  rw [View.set_slice_whole, Rect.mem_set_unit]
  obtain ⟨o0, o1, s0, s1⟩ := offset_7 t
  have h0 : (i 0).val < 1 := (i 0).isLt
  refine ⟨fun h => ?_, fun h a => ?_⟩
  · have := h 1
    change win0_7.index t 1 * 32768 ≤ (i 1).val ∧ (i 1).val < win0_7.index t 1 * 32768 + win0_7.xsize (grid0.coords t) 1 at this
    rwa [o1, s1] at this
  · match a with
    | ⟨0, _⟩ =>
      change win0_7.index t 0 * 1 ≤ (i 0).val ∧ (i 0).val < win0_7.index t 0 * 1 + win0_7.xsize (grid0.coords t) 0
      rw [o0, s0]; omega
    | ⟨1, _⟩ =>
      change win0_7.index t 1 * 32768 ≤ (i 1).val ∧ (i 1).val < win0_7.index t 1 * 32768 + win0_7.xsize (grid0.coords t) 1
      rwa [o1, s1]

/-- The same of the displacement's array, -/
theorem mem_8 (t : Fin cfg0.N) (i : S3x1000000.Idx) :
    i ∈ (win0_8.blk t).view.setOn Finset.univ ↔ t.val * 32768 ≤ (i 1).val ∧ (i 1).val < t.val * 32768 + width t := by
  rw [View.setOn_univ]
  show i ∈ ((View.whole main_v10_1).slice (win0_8.rect t)).set ↔ _
  rw [View.set_slice_whole, Rect.mem_set_unit]
  obtain ⟨o0, o1, s0, s1⟩ := offset_8 t
  have h0 : (i 0).val < 3 := (i 0).isLt
  refine ⟨fun h => ?_, fun h a => ?_⟩
  · have := h 1
    change win0_8.index t 1 * 32768 ≤ (i 1).val ∧ (i 1).val < win0_8.index t 1 * 32768 + win0_8.xsize (grid0.coords t) 1 at this
    rwa [o1, s1] at this
  · match a with
    | ⟨0, _⟩ =>
      change win0_8.index t 0 * 3 ≤ (i 0).val ∧ (i 0).val < win0_8.index t 0 * 3 + win0_8.xsize (grid0.coords t) 0
      rw [o0, s0]; omega
    | ⟨1, _⟩ =>
      change win0_8.index t 1 * 32768 ≤ (i 1).val ∧ (i 1).val < win0_8.index t 1 * 32768 + win0_8.xsize (grid0.coords t) 1
      rwa [o1, s1]

/-- and of the rotation's. -/
theorem mem_9 (t : Fin cfg0.N) (i : S4x1000000.Idx) :
    i ∈ (win0_9.blk t).view.setOn Finset.univ ↔ t.val * 32768 ≤ (i 1).val ∧ (i 1).val < t.val * 32768 + width t := by
  rw [View.setOn_univ]
  show i ∈ ((View.whole main_v10_2).slice (win0_9.rect t)).set ↔ _
  rw [View.set_slice_whole, Rect.mem_set_unit]
  obtain ⟨o0, o1, s0, s1⟩ := offset_9 t
  have h0 : (i 0).val < 4 := (i 0).isLt
  refine ⟨fun h => ?_, fun h a => ?_⟩
  · have := h 1
    change win0_9.index t 1 * 32768 ≤ (i 1).val ∧ (i 1).val < win0_9.index t 1 * 32768 + win0_9.xsize (grid0.coords t) 1 at this
    rwa [o1, s1] at this
  · match a with
    | ⟨0, _⟩ =>
      change win0_9.index t 0 * 4 ≤ (i 0).val ∧ (i 0).val < win0_9.index t 0 * 4 + win0_9.xsize (grid0.coords t) 0
      rw [o0, s0]; omega
    | ⟨1, _⟩ =>
      change win0_9.index t 1 * 32768 ≤ (i 1).val ∧ (i 1).val < win0_9.index t 1 * 32768 + win0_9.xsize (grid0.coords t) 1
      rwa [o1, s1]

/-- Every column lies in the block of the point its number divided by 32768 names. -/
theorem covered (q : ℕ) (hq : q < 1000000) : ∃ t : Fin cfg0.N, t.val * 32768 ≤ q ∧ q < t.val * 32768 + width t := by
  have hb : q / 32768 < 31 := by omega
  refine ⟨⟨q / 32768, hb⟩, by show q / 32768 * 32768 ≤ q; omega, ?_⟩
  show q < q / 32768 * 32768 + width ⟨q / 32768, hb⟩
  unfold width
  split
  · omega
  · next h => have h' : ¬ q / 32768 < 30 := h; omega

/-- An array that is overwritten, point after point, by the blocks of `G` is `G` once every index lies in one of the blocks:
    stated of any contents `arr n` after `n` points that each point's write changes so. -/
theorem overwritten {α β : Type} [DecidableEq α] (N : ℕ) (arr : ℕ → α → β) (G : α → β) (blk : Fin N → Finset α)
    (hstep : ∀ t : Fin N, arr (t.val + 1) = (blk t).piecewise G (arr t.val))
    (hcover : ∀ i, ∃ t, i ∈ blk t) : arr N = G := by
  have key : ∀ n, n ≤ N → ∀ i, (∃ t : Fin N, t.val < n ∧ i ∈ blk t) → arr n i = G i := by
    intro n
    induction n with
    | zero => rintro - i ⟨t, h, -⟩; omega
    | succ n ih =>
      intro hn i hi
      rw [show arr (n + 1) = _ from hstep ⟨n, hn⟩]
      by_cases hmem : i ∈ blk ⟨n, hn⟩
      · exact Finset.piecewise_eq_of_mem _ _ _ hmem
      · rw [Finset.piecewise_eq_of_notMem _ _ _ hmem]
        obtain ⟨t, ht, hit⟩ := hi
        refine ih (by omega) i ⟨t, ?_, hit⟩
        rcases Nat.lt_or_ge t.val n with h | h
        · exact h
        · have e : t = ⟨n, hn⟩ := Fin.ext (by show t.val = n; omega)
          exact absurd (e ▸ hit) hmem
  funext i
  obtain ⟨t, ht⟩ := hcover i
  exact key N le_rfl i ⟨t, t.isLt, ht⟩

end Cert.KernelValue

end
-- ==== Proof.Body.lean ====
/-
  The kernel's body as a triple over the ideal values: what it leaves in the three output buffers, of what it finds in the
  seven input buffers. The outputs' earlier contents are read by nothing.
-/
module

public import proofs.«01_k».proof.Proof.Blocks

@[expose] public section

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The offsets of a whole access are zero on both axes. -/
theorem zero_offsets : (![0, 0] : Fin 2 → Nat) = fun _ => 0 := funext fun a => by fin_cases a <;> rfl

set_option maxHeartbeats 1000000 in
set_option maxRecDepth 16384 in
/-- The body's triple: the inputs stay, the mask's, the displacement's and the rotation's buffers end at the payloads of
    the inputs. -/
theorem sound_body (c : Dev nD) (E : Set ℕ) (i : grid0.Coords)
    (a1 : Memref sig .tc .vmem S3x32768 .f32) (h1 : a1.IsWhole) (a2 : Memref sig .tc .vmem S64x3 .f32) (h2 : a2.IsWhole)
    (a3 : Memref sig .tc .vmem S64x1 .f32) (h3 : a3.IsWhole) (a4 : Memref sig .tc .vmem S7x64 .f32) (h4 : a4.IsWhole)
    (a5 : Memref sig .tc .vmem S7x1 .f32) (h5 : a5.IsWhole) (a6 : Memref sig .tc .vmem S3x1 .f32) (h6 : a6.IsWhole)
    (a7 : Memref sig .tc .vmem S3x1 .f32) (h7 : a7.IsWhole) (a8 : Memref sig .tc .vmem S1x32768 .i32) (h8 : a8.IsWhole)
    (a9 : Memref sig .tc .vmem S3x32768 .f32) (h9 : a9.IsWhole) (a10 : Memref sig .tc .vmem S4x32768 .f32) (h10 : a10.IsWhole)
    (X : S3x32768.Idx → Elt Ideal .f32) (W1 : S64x3.Idx → Elt Ideal .f32) (b1 : S64x1.Idx → Elt Ideal .f32)
    (W2 : S7x64.Idx → Elt Ideal .f32) (b2 : S7x1.Idx → Elt Ideal .f32) (lo inv : S3x1.Idx → Elt Ideal .f32)
    (o8 : S1x32768.Idx → Elt Ideal .i32) (o9 : S3x32768.Idx → Elt Ideal .f32) (o10 : S4x32768.Idx → Elt Ideal .f32)
    (K : PUnit → sProp 𝕄) :
    iprop(owns (c : Thread nD τ) a1 fullShare X ∗ owns (c : Thread nD τ) a2 fullShare W1 ∗ owns (c : Thread nD τ) a3 fullShare b1
        ∗ owns (c : Thread nD τ) a4 fullShare W2 ∗ owns (c : Thread nD τ) a5 fullShare b2 ∗ owns (c : Thread nD τ) a6 fullShare lo
        ∗ owns (c : Thread nD τ) a7 fullShare inv ∗ owns (c : Thread nD τ) a8 fullShare o8 ∗ owns (c : Thread nD τ) a9 fullShare o9
        ∗ owns (c : Thread nD τ) a10 fullShare o10
        ∗ (iprop(owns (c : Thread nD τ) a1 fullShare X ∗ owns (c : Thread nD τ) a2 fullShare W1 ∗ owns (c : Thread nD τ) a3 fullShare b1
            ∗ owns (c : Thread nD τ) a4 fullShare W2 ∗ owns (c : Thread nD τ) a5 fullShare b2 ∗ owns (c : Thread nD τ) a6 fullShare lo
            ∗ owns (c : Thread nD τ) a7 fullShare inv
            ∗ owns (c : Thread nD τ) a8 fullShare (k0_pay4 (k0_pay6 X lo inv))
            ∗ owns (c : Thread nD τ) a9 fullShare (k0_pay2 (k0_pay6 X lo inv) (k0_pay7 X lo inv W1 b1 W2) (k0_pay8 b2))
            ∗ owns (c : Thread nD τ) a10 fullShare (k0_pay3 (k0_pay6 X lo inv) (k0_pay7 X lo inv W1 b1 W2) (k0_pay8 b2))) -∗ K ⟨⟩))
      ⊢ wp frame (wpE (defs₀ (F := Ideal)) Variants.none c none) E
          (cc0__wide_kernel i a1 h1 a2 h2 a3 h3 a4 h4 a5 h5 a6 h6 a7 h7 a8 h8 a9 h9 a10 h10) K := by
  simp only [cc0__wide_kernel_eq_skeleton]; unfold cc0__wide_kernel_skel
  simp only [k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, -, H8⟩, ⟨%f9, -, H9⟩, ⟨%f10, -, H10⟩, Hk⟩
  subst e1 e2 e3 e4 e5 e6 e7
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  have r1 := View.ld_unit_zero zero_offsets inb_S3x32768_S3x32768_0_0 (a1.view.read (Elt Ideal) f1)
  have r2 := View.ld_unit_zero zero_offsets inb_S64x3_S64x3_0_0 (a2.view.read (Elt Ideal) f2)
  have r3 := View.ld_unit_zero zero_offsets inb_S64x1_S64x1_0_0 (a3.view.read (Elt Ideal) f3)
  have r4 := View.ld_unit_zero zero_offsets inb_S7x64_S7x64_0_0 (a4.view.read (Elt Ideal) f4)
  have r5 := View.ld_unit_zero zero_offsets inb_S7x1_S7x1_0_0 (a5.view.read (Elt Ideal) f5)
  have r6 := View.ld_unit_zero zero_offsets inb_S3x1_S3x1_0_0 (a6.view.read (Elt Ideal) f6)
  have r7 := View.ld_unit_zero zero_offsets inb_S3x1_S3x1_0_0 (a7.view.read (Elt Ideal) f7)
  have hm := congr (congr (congrArg (k0_pay6 (F := Ideal)) r1) r6) r7
  have hl := congr (congr (congr (congr (congr (congrArg (k0_pay7 (F := Ideal)) r1) r6) r7) r2) r3) r4
  have hb := congrArg (k0_pay8 (F := Ideal)) r5
  isplitl [H8]
  · iexists _; isplitr; swap; · iexact H8
    ipureintro
    refine (View.read_writes_eq_canon _ _ _ (View.cover_of_tiled _ S1x32768.size (by rfl))).trans ?_
    rw [View.canon_unit_zero zero_offsets]
    exact congrArg k0_pay4 hm
  isplitl [H9]
  · iexists _; isplitr; swap; · iexact H9
    ipureintro
    refine (View.read_writes_eq_canon _ _ _ (View.cover_of_tiled _ S3x32768.size (by rfl))).trans ?_
    rw [View.canon_unit_zero zero_offsets]
    exact congr (congr (congrArg (k0_pay2 (F := Ideal)) hm) hl) hb
  · iexists _; isplitr; swap; · iexact H10
    ipureintro
    refine (View.read_writes_eq_canon _ _ _ (View.cover_of_tiled _ S4x32768.size (by rfl))).trans ?_
    rw [View.canon_unit_zero zero_offsets]
    exact congr (congr (congrArg (k0_pay3 (F := Ideal)) hm) hl) hb

end Cert.KernelValue

end
-- ==== Proof.Launch.lean ====
/-
  The kernel's run over the ideal values. The three output arrays are stated whole, column by column (`maskOf`, `moveOf`,
  `turnOf`), from the arrays the region finds; the body at a point writes that point's columns of them, and the points'
  blocks cover the arrays.

  Past the arrays' end, at the last point, the input's buffer holds words nothing names and the outputs' buffers hold
  what the body made of them. The four moving windows are loose: nothing is stated there, and nothing of it reaches an array,
  for a column of an output depends on the same column of the input only.
-/
module

public import proofs.«01_k».proof.Proof.Body

@[expose] public section

noncomputable section

namespace Cert.KernelValue

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

/-! ## The outputs, whole -/

/-- The scaled point of column `q`. -/
def at_ (X : S3x1000000.Idx → EReal) (lo inv : S3x1.Idx → EReal) (q : Fin 1000000) : Fin 3 → EReal :=
  scaled (fun k => X (ix2 k q)) lo inv

/-- The mask's array: the word of each column. -/
def maskOf (X : S3x1000000.Idx → EReal) (lo inv : S3x1.Idx → EReal) : S1x1000000.Idx → BitVec 32 := fun i =>
  (inBox (at_ X lo inv (i 1))).setWidth 32

/-- The displacement's array: the network's first three outputs in the box, zero outside. -/
def moveOf (X : S3x1000000.Idx → EReal) (lo inv : S3x1.Idx → EReal) (W1 : S64x3.Idx → EReal) (b1 : S64x1.Idx → EReal)
    (W2 : S7x64.Idx → EReal) (b2 : S7x1.Idx → EReal) : S3x1000000.Idx → EReal := fun i =>
  Scalar.select (inBox (at_ X lo inv (i 1)))
    (residual (at_ X lo inv (i 1)) W1 b1 W2 b2 (Fin.castLE (by decide) (i 0 : Fin 3))) (0 : EReal)

/-- The rotation's array: the network's last four outputs in the box, the identity quaternion outside. -/
def turnOf (X : S3x1000000.Idx → EReal) (lo inv : S3x1.Idx → EReal) (W1 : S64x3.Idx → EReal) (b1 : S64x1.Idx → EReal)
    (W2 : S7x64.Idx → EReal) (b2 : S7x1.Idx → EReal) : S4x1000000.Idx → EReal := fun i =>
  Scalar.select (inBox (at_ X lo inv (i 1)))
    (residual (at_ X lo inv (i 1)) W1 b1 W2 b2 (Fin.natAdd 3 (i 0 : Fin 4))) (unitRot (i 0))

/-! ## What the body writes inside the arrays -/

section Written
variable (t : Fin cfg0.N) (X : S3x1000000.Idx → EReal) (d : S3x32768.Idx → EReal) (lo inv : S3x1.Idx → EReal)
  (W1 : S64x3.Idx → EReal) (b1 : S64x1.Idx → EReal) (W2 : S7x64.Idx → EReal) (b2 : S7x1.Idx → EReal)

/-- What the input's buffer holds at point `t`. -/
abbrev found : S3x32768.Idx → EReal := win0_0.fill (grid0.coords t) d ((win0_0.blk t).view.read (Elt Ideal) X)

/-- The mask's buffer, on the columns inside the array: the array's columns. -/
theorem written_7 : win0_7.cut (grid0.coords t) (k0_pay4 (k0_pay6 (F := Ideal) (found t X d) lo inv))
    = (win0_7.blk t).view.read (Elt Ideal) (maskOf X lo inv) := by
  funext j
  have h : (j 1).val < width t := (j 1).isLt.trans_eq (offset_7 t).2.2.2
  have h0 : (j 0).val < 1 := (j 0).isLt.trans_eq (offset_7 t).2.2.1
  rw [read_7 t _ j h]
  have ej : win0_7.xinj (grid0.coords t) j = (ix2 (0 : Fin 1) ⟨(j 1).val, h.trans_le (width_le t)⟩ : S1x32768.Idx) :=
    funext fun a => Fin.ext (by match a with | ⟨0, _⟩ => exact Nat.lt_one_iff.mp h0 | ⟨1, _⟩ => rfl)
  show (k0_pay6 (F := Ideal) (found t X d) lo inv (win0_7.xinj (grid0.coords t) j)).setWidth 32 = _
  rw [ej, pay6_eq, fetched_column t X d _ h]
  rfl

/-- The displacement's buffer likewise, -/
theorem written_8 : win0_8.cut (grid0.coords t)
      (k0_pay2 (F := Ideal) (k0_pay6 (F := Ideal) (found t X d) lo inv) (k0_pay7 (F := Ideal) (found t X d) lo inv W1 b1 W2) (k0_pay8 b2))
    = (win0_8.blk t).view.read (Elt Ideal) (moveOf X lo inv W1 b1 W2 b2) := by
  funext j
  have h : (j 1).val < width t := (j 1).isLt.trans_eq (offset_8 t).2.2.2
  have h0 : (j 0).val < 3 := (j 0).isLt.trans_eq (offset_8 t).2.2.1
  rw [read_8 t _ j ⟨(j 0).val, h0⟩ rfl h]
  have ej : win0_8.xinj (grid0.coords t) j = (ix2 (⟨(j 0).val, h0⟩ : Fin 3) ⟨(j 1).val, h.trans_le (width_le t)⟩ : S3x32768.Idx) :=
    funext fun a => Fin.ext (by match a with | ⟨0, _⟩ => rfl | ⟨1, _⟩ => rfl)
  show k0_pay2 (F := Ideal) _ _ _ (win0_8.xinj (grid0.coords t) j) = _
  rw [ej, pay2_eq, pay6_eq, pay7_eq, pay8_eq, fetched_column t X d _ h]
  rfl

/-- and the rotation's. -/
theorem written_9 : win0_9.cut (grid0.coords t)
      (k0_pay3 (F := Ideal) (k0_pay6 (F := Ideal) (found t X d) lo inv) (k0_pay7 (F := Ideal) (found t X d) lo inv W1 b1 W2) (k0_pay8 b2))
    = (win0_9.blk t).view.read (Elt Ideal) (turnOf X lo inv W1 b1 W2 b2) := by
  funext j
  have h : (j 1).val < width t := (j 1).isLt.trans_eq (offset_9 t).2.2.2
  have h0 : (j 0).val < 4 := (j 0).isLt.trans_eq (offset_9 t).2.2.1
  rw [read_9 t _ j ⟨(j 0).val, h0⟩ rfl h]
  have ej : win0_9.xinj (grid0.coords t) j = (ix2 (⟨(j 0).val, h0⟩ : Fin 4) ⟨(j 1).val, h.trans_le (width_le t)⟩ : S4x32768.Idx) :=
    funext fun a => Fin.ext (by match a with | ⟨0, _⟩ => rfl | ⟨1, _⟩ => rfl)
  show k0_pay3 (F := Ideal) _ _ _ (win0_9.xinj (grid0.coords t) j) = _
  rw [ej, pay3_eq, pay6_eq, pay7_eq, pay8_eq, fetched_column t X d _ h]
  rfl

end Written

/-! ## The proof data -/

variable (m : (ℓ : Loc nD τ sig) → Buf (Elt Ideal) ℓ) (ρ : Dev nD → PrngReg)

/-- A block that starts at the array's origin, read at an index: the array at the index of the same coordinates. -/
theorem read_origin {α : Type} {s : Shape} (r : Rect s) (A : s.Idx → α) (h0 : ∀ a, r.off a = 0) (h1 : ∀ a, r.stride a = 1)
    (j : r.shape.Idx) (i : s.Idx) (hi : ∀ a, (i a).val = (j a).val) : A (r.emb j) = A i :=
  congrArg A (funext fun a => Fin.ext (by rw [Rect.emb_apply, h0, h1, hi]; omega))

/-- The small operands' blocks are their whole arrays at every point: both layers' weights and biases, the box's lower
    corner and the reciprocals of its extents. -/
theorem iblk_1 (c : Dev nD) (t : Fin cfg0.N) : iblk (F := Ideal) m c 1 t = V m c main_v1 :=
  funext fun j => read_origin (win0_1.rect t) (V m c main_v1) (Fin.forall_fin_two.mpr ⟨rfl, rfl⟩) (fun _ => rfl) j j fun _ => rfl
theorem iblk_2 (c : Dev nD) (t : Fin cfg0.N) : iblk (F := Ideal) m c 2 t = V m c main_v3 :=
  funext fun j => read_origin (win0_2.rect t) (V m c main_v3) (Fin.forall_fin_two.mpr ⟨rfl, rfl⟩) (fun _ => rfl) j j fun _ => rfl
theorem iblk_3 (c : Dev nD) (t : Fin cfg0.N) : iblk (F := Ideal) m c 3 t = V m c main_v2 :=
  funext fun j => read_origin (win0_3.rect t) (V m c main_v2) (Fin.forall_fin_two.mpr ⟨rfl, rfl⟩) (fun _ => rfl) j j fun _ => rfl
theorem iblk_4 (c : Dev nD) (t : Fin cfg0.N) : iblk (F := Ideal) m c 4 t = V m c main_v4 :=
  funext fun j => read_origin (win0_4.rect t) (V m c main_v4) (Fin.forall_fin_two.mpr ⟨rfl, rfl⟩) (fun _ => rfl) j j fun _ => rfl
theorem iblk_5 (c : Dev nD) (t : Fin cfg0.N) : iblk (F := Ideal) m c 5 t = V m c main_v5 :=
  funext fun j => read_origin (win0_5.rect t) (V m c main_v5) (Fin.forall_fin_two.mpr ⟨rfl, rfl⟩) (fun _ => rfl) j j fun _ => rfl
theorem iblk_6 (c : Dev nD) (t : Fin cfg0.N) : iblk (F := Ideal) m c 6 t = V m c main_v9 :=
  funext fun j => read_origin (win0_6.rect t) (V m c main_v9) (Fin.forall_fin_two.mpr ⟨rfl, rfl⟩) (fun _ => rfl) j j fun _ => rfl

/-- The outputs' arrays on device `c`, from what the region finds. -/
abbrev mask (c : Dev nD) : S1x1000000.Idx → BitVec 32 := maskOf (V m c main_v0) (V m c main_v5) (V m c main_v9)
abbrev move (c : Dev nD) : S3x1000000.Idx → EReal :=
  moveOf (V m c main_v0) (V m c main_v5) (V m c main_v9) (V m c main_v1) (V m c main_v3) (V m c main_v2) (V m c main_v4)
abbrev turn (c : Dev nD) : S4x1000000.Idx → EReal :=
  turnOf (V m c main_v0) (V m c main_v5) (V m c main_v9) (V m c main_v1) (V m c main_v3) (V m c main_v2) (V m c main_v4)

/-- The proof data: the arrays as the region finds them; after the body the inputs' buffers hold their blocks and the outputs'
    theirs of the arrays above, each moving window's filled out past the array's end with a word nothing reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => win0_7.fill (grid0.coords t) (fun _ => (0#32 : BitVec 32)) ((win0_7.blk t).view.read (Elt Ideal) (mask m c))
    | ⟨8, _⟩ => win0_8.fill (grid0.coords t) (fun _ => (0 : EReal)) ((win0_8.blk t).view.read (Elt Ideal) (move m c))
    | ⟨9, _⟩ => win0_9.fill (grid0.coords t) (fun _ => (0 : EReal)) ((win0_9.blk t).view.read (Elt Ideal) (turn m c))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The input's buffer is fetched at every point: its block inside the array, anything past it. -/
theorem before_0 (c : Dev nD) (t : Fin cfg0.N) (d) :
    (dats m 0 c).before (0 : Fin 10) t d = win0_0.fill (grid0.coords t) d (iblk m c 0 t) := by
  unfold Dat.before; rw [if_pos (fetch0_0 t)]; rfl

/-- What the small operands' buffers hold before the body: the arrays. -/
theorem before_1 (c : Dev nD) (t : Fin cfg0.N) (d) : (dats m 0 c).before (1 : Fin 10) t d = V m c main_v1 :=
  (before0_1_of m _ (A_eq m c 1) (fun t => by dsimp only [dats]) t d).trans (iblk_1 m c t)
theorem before_2 (c : Dev nD) (t : Fin cfg0.N) (d) : (dats m 0 c).before (2 : Fin 10) t d = V m c main_v3 :=
  (before0_2_of m _ (A_eq m c 2) (fun t => by dsimp only [dats]) t d).trans (iblk_2 m c t)
theorem before_3 (c : Dev nD) (t : Fin cfg0.N) (d) : (dats m 0 c).before (3 : Fin 10) t d = V m c main_v2 :=
  (before0_3_of m _ (A_eq m c 3) (fun t => by dsimp only [dats]) t d).trans (iblk_3 m c t)
theorem before_4 (c : Dev nD) (t : Fin cfg0.N) (d) : (dats m 0 c).before (4 : Fin 10) t d = V m c main_v4 :=
  (before0_4_of m _ (A_eq m c 4) (fun t => by dsimp only [dats]) t d).trans (iblk_4 m c t)
theorem before_5 (c : Dev nD) (t : Fin cfg0.N) (d) : (dats m 0 c).before (5 : Fin 10) t d = V m c main_v5 :=
  (before0_5_of m _ (A_eq m c 5) (fun t => by dsimp only [dats]) t d).trans (iblk_5 m c t)
theorem before_6 (c : Dev nD) (t : Fin cfg0.N) (d) : (dats m 0 c).before (6 : Fin 10) t d = V m c main_v9 :=
  (before0_6_of m _ (A_eq m c 6) (fun t => by dsimp only [dats]) t d).trans (iblk_6 m c t)

/-- and what they hold after it: the same arrays. -/
theorem after_1 (c : Dev nD) (t : Fin cfg0.N) : (dats m 0 c).after (1 : Fin 10) t = V m c main_v1 := iblk_1 m c t
theorem after_2 (c : Dev nD) (t : Fin cfg0.N) : (dats m 0 c).after (2 : Fin 10) t = V m c main_v3 := iblk_2 m c t
theorem after_3 (c : Dev nD) (t : Fin cfg0.N) : (dats m 0 c).after (3 : Fin 10) t = V m c main_v2 := iblk_3 m c t
theorem after_4 (c : Dev nD) (t : Fin cfg0.N) : (dats m 0 c).after (4 : Fin 10) t = V m c main_v4 := iblk_4 m c t
theorem after_5 (c : Dev nD) (t : Fin cfg0.N) : (dats m 0 c).after (5 : Fin 10) t = V m c main_v5 := iblk_5 m c t
theorem after_6 (c : Dev nD) (t : Fin cfg0.N) : (dats m 0 c).after (6 : Fin 10) t = V m c main_v9 := iblk_6 m c t

/-- The loose windows' buffers after the body, on the part inside the arrays. -/
theorem inside_0 (c : Dev nD) (t : Fin cfg0.N) : win0_0.cut (grid0.coords t) ((dats m 0 c).after (0 : Fin 10) t) = iblk m c 0 t :=
  win0_0.cut_fill _ _ _
theorem inside_7 (c : Dev nD) (t : Fin cfg0.N) :
    win0_7.cut (grid0.coords t) ((dats m 0 c).after (7 : Fin 10) t) = (win0_7.blk t).view.read (Elt Ideal) (mask m c) :=
  win0_7.cut_fill _ _ _
theorem inside_8 (c : Dev nD) (t : Fin cfg0.N) :
    win0_8.cut (grid0.coords t) ((dats m 0 c).after (8 : Fin 10) t) = (win0_8.blk t).view.read (Elt Ideal) (move m c) :=
  win0_8.cut_fill _ _ _
theorem inside_9 (c : Dev nD) (t : Fin cfg0.N) :
    win0_9.cut (grid0.coords t) ((dats m 0 c).after (9 : Fin 10) t) = (win0_9.blk t).view.read (Elt Ideal) (turn m c) :=
  win0_9.cut_fill _ _ _

/-- A loose window's buffer whose part inside the array is stated, owned at contents filled out by themselves. -/
theorem owns_loose (c : Dev nD) (w : Window sig grid0) (t : Fin cfg0.N) (M : Memref sig .tc .vmem w.block w.elt)
    (Y : w.block.Idx → Elt Ideal w.elt) (Z : w.block.Idx → Elt Ideal w.elt)
    (h : w.cut (grid0.coords t) Y = w.cut (grid0.coords t) Z) :
    (owns (c : Thread nD τ) M fullShare Y : sProp 𝕄)
      ⊢ iprop(∃ d, owns (c : Thread nD τ) M fullShare (w.fill (grid0.coords t) d (w.cut (grid0.coords t) Z))) := by
  rw [← h]
  iintro H; iexists Y; rw [w.fill_cut]; iexact H

/-! ## One point of the grid -/

/-- The body table's row at point `t`'s slots is the body as `bodyAt0` spells it. -/
theorem defs_row (t : Fin cfg0.N) : defs₀ (F := Ideal) .tc cfg0.body (cfg0.bodyArgs t (cfg0.slots t)) = bodyAt0 t := by
  unfold defs₀; rw [Defs.onTc_tc]

/-- A window's staging buffer before the body runs at point `t`, -/
abbrev entering (c : Dev nD) (t : Fin cfg0.N) (w : Fin cfg0.W) : sProp 𝕄 :=
  iprop(∃ d, owns (c : Thread nD τ) ((cfg0.win w).stage (cfg0.slots t w)) fullShare ((dats m 0 c).before w t d))

/-- after it, for a window whose block lies inside its array, -/
abbrev leaving (c : Dev nD) (t : Fin cfg0.N) (w : Fin cfg0.W) : sProp 𝕄 :=
  iprop(owns (c : Thread nD τ) ((cfg0.win w).stage (cfg0.slots t w)) fullShare ((dats m 0 c).after w t))

/-- and after it for a moving window: stated inside the array only. -/
abbrev leavingLoose (c : Dev nD) (t : Fin cfg0.N) (w : Fin cfg0.W) : sProp 𝕄 :=
  iprop(∃ d, owns (c : Thread nD τ) ((cfg0.win w).stage (cfg0.slots t w)) fullShare
    ((cfg0.win w).fill (cfg0.grid.coords t) d ((cfg0.win w).cut (cfg0.grid.coords t) ((dats m 0 c).after w t))))

set_option maxHeartbeats 1000000 in
/-- One point of the grid, by `sound_body` at the point's staging buffers. -/
theorem at_point (c : Dev nD) (t : Fin cfg0.N) :
    iprop((dats m 0 c).Φ t.castSucc ∗ (dats m 0 c).owesAt () t.castSucc ∗ entering m c t 0 ∗ entering m c t 1 ∗ entering m c t 2
        ∗ entering m c t 3 ∗ entering m c t 4 ∗ entering m c t 5 ∗ entering m c t 6 ∗ entering m c t 7 ∗ entering m c t 8
        ∗ entering m c t 9)
      ⊢ wp frame (wpE (defs₀ (F := Ideal)) Variants.none c none) Set.univ (bodyAt0 t) fun _ =>
        iprop((dats m 0 c).Φ t.succ ∗ (dats m 0 c).owesAt () t.succ ∗ leavingLoose m c t 0 ∗ leaving m c t 1 ∗ leaving m c t 2
          ∗ leaving m c t 3 ∗ leaving m c t 4 ∗ leaving m c t 5 ∗ leaving m c t 6 ∗ leavingLoose m c t 7 ∗ leavingLoose m c t 8
          ∗ leavingLoose m c t 9) := by
  unfold entering leaving leavingLoose bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, after_1, after_2, after_3, after_4, after_5, after_6]
  iapply (sound_body c Set.univ (grid0.coords t) _ _ _ _ _ _ _ _ _ _ _ _ _ _ _ _ _ _ _ _ (found t (V m c main_v0) d0)
    (V m c main_v1) (V m c main_v3) (V m c main_v2) (V m c main_v4) (V m c main_v5) (V m c main_v9) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]
  · iapply (owns_loose c win0_0 t _ _ _ ((win0_0.cut_fill _ _ _).trans (inside_0 m c t).symm)); iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_loose c win0_7 t _ _ _ ((written_7 t _ d0 _ _).trans (inside_7 m c t).symm)); iexact H7
  isplitl [H8]
  · iapply (owns_loose c win0_8 t _ _ _ ((written_8 t _ d0 _ _ _ _ _ _).trans (inside_8 m c t).symm)); iexact H8
  · iapply (owns_loose c win0_9 t _ _ _ ((written_9 t _ d0 _ _ _ _ _ _).trans (inside_9 m c t).symm)); iexact H9

/-- The library's body obligation, the moving windows loose. -/
theorem obligation (c : Dev nD) : BodyObligationLoose (dats m 0 c) (defs₀ (F := Ideal)) Variants.none () Set.univ := fun t => by
  rw [bigSep_W0, bigSep_W0]
  exact triple_restated (at_point m c t) (by rw [defs_row]) .rfl fun _ => .rfl

end Cert.KernelValue

end
-- ==== Proof.Run.lean ====
/-
  The launch of the ideal kernel: it runs, and the three output arrays end holding `mask`, `move` and `turn` of the arrays
  the region finds. The frame claim follows.
-/
module

public import proofs.«01_k».proof.Defs
public import proofs.«01_k».proof.Proof.Launch

@[expose] public section

noncomputable section

namespace Cert.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What the run is read at: the pipeline's arrays as the proof data say, every other buffer as the host lines after the
    region leave it. -/
abbrev Post (r : PUnit × MemSt nD τ sig (Elt Ideal)) : Prop :=
  Pipeline.FramePost cfgs (dats m) 0 (Pipeline.afterTail₀ cfgs (dats m) 0 (V0 m) [hostOps1]) r

-- `θ_run_frame_around`'s implicit arguments are found by unifying its conclusion with this one, which takes unfolding
-- plain definitions in a metavariable's type
set_option backward.isDefEq.respectTransparency.types false in
set_option maxHeartbeats 800000 in
/-- The launch: every weakly fair execution of @main terminates in `Post` with every semaphore counter at zero. -/
theorem run_main : θ_run defs (onTc (τ := τ) (main (F := Ideal))) (s₀ m ρ) (fun r => Post m r ∧ r.2.sem = fun _ => 0) :=
  Pipeline.θ_run_frame_around (Q' := _) cfgs (dats m) (0 : Fin 1) launch0 defs₀ Variants.none m ρ main
    (hbody := fun c => obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A buffer that no window stages ends at what the host lines after the region leave there. -/
theorem rest (b : Ref sig .tc) (hs : b.isScoped = false) (hw : ∀ w, Pipeline.arrRef spec0 w ≠ b)
    {r : PUnit × MemSt nD τ sig (Elt Ideal)} (h : Post m r) (c : Dev nD) :
    r.2.mem ((c : Thread nD τ).loc b) = Pipeline.afterTail₀ cfgs (dats m) 0 (V0 m) [hostOps1] c b :=
  (h c).2 b (Pipeline.mem_restRefs_of b hs hw)

/-- The arguments end unchanged. -/
theorem args_kept {r : PUnit × MemSt nD τ sig (Elt Ideal)} (h : Post m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨(rest m main_arg0 (by decide) (by decide) h c).trans (W_main_arg0 m (dats m) c),
    (rest m main_arg1 (by decide) (by decide) h c).trans (W_main_arg1 m (dats m) c),
    (rest m main_arg2 (by decide) (by decide) h c).trans (W_main_arg2 m (dats m) c),
    (rest m main_arg3 (by decide) (by decide) h c).trans (W_main_arg3 m (dats m) c),
    (rest m main_arg4 (by decide) (by decide) h c).trans (W_main_arg4 m (dats m) c),
    (rest m main_arg5 (by decide) (by decide) h c).trans (W_main_arg5 m (dats m) c),
    (rest m main_arg6 (by decide) (by decide) h c).trans (W_main_arg6 m (dats m) c)⟩

/-- THE FRAME of the ideal kernel, with no precondition -/
theorem quiescent : Cert.quiescent_KernelIdeal (hKernelIdeal := Cert.KernelIdeal.Gen.facts) := fun m g _ =>
  (θ_run defs _ _).mono (fun _ h => ⟨fun c => args_kept m h.1 c, h.2⟩) (run_main m g)

/-! ## The arrays after the run -/

/-- The mask's array after `n` points, one point on: overwritten by its block of `mask`. -/
theorem step_7 (c : Dev nD) (t : Fin cfg0.N) : (dats m 0 c).arrAt (7 : Fin 10) (t.val + 1)
    = ((win0_7.blk t).view.setOn Finset.univ).piecewise (mask m c) ((dats m 0 c).arrAt (7 : Fin 10) t.val) := by
  rw [(dats m 0 c).arrAt_succ (7 : Fin 10) t, if_pos (flush0_7 t)]
  exact (congrArg (fun g => (win0_7.blk t).view.write (Elt Ideal) _ g Finset.univ) (inside_7 m c t)).trans
    (View.write_read_eq_piecewise _ _ _)
theorem step_8 (c : Dev nD) (t : Fin cfg0.N) : (dats m 0 c).arrAt (8 : Fin 10) (t.val + 1)
    = ((win0_8.blk t).view.setOn Finset.univ).piecewise (move m c) ((dats m 0 c).arrAt (8 : Fin 10) t.val) := by
  rw [(dats m 0 c).arrAt_succ (8 : Fin 10) t, if_pos (flush0_8 t)]
  exact (congrArg (fun g => (win0_8.blk t).view.write (Elt Ideal) _ g Finset.univ) (inside_8 m c t)).trans
    (View.write_read_eq_piecewise _ _ _)
theorem step_9 (c : Dev nD) (t : Fin cfg0.N) : (dats m 0 c).arrAt (9 : Fin 10) (t.val + 1)
    = ((win0_9.blk t).view.setOn Finset.univ).piecewise (turn m c) ((dats m 0 c).arrAt (9 : Fin 10) t.val) := by
  rw [(dats m 0 c).arrAt_succ (9 : Fin 10) t, if_pos (flush0_9 t)]
  exact (congrArg (fun g => (win0_9.blk t).view.write (Elt Ideal) _ g Finset.univ) (inside_9 m c t)).trans
    (View.write_read_eq_piecewise _ _ _)

/-- After the run the mask's array is `mask`, -/
theorem final_7 (c : Dev nD) : (dats m 0 c).arrAt (7 : Fin 10) cfg0.N = mask m c :=
  overwritten cfg0.N (fun n => (dats m 0 c).arrAt (7 : Fin 10) n) (mask m c) _ (step_7 m c) fun i =>
    (covered (i 1).val (i 1).isLt).imp fun t h => (mem_7 t i).mpr h
/-- the displacement's is `move`, -/
theorem final_8 (c : Dev nD) : (dats m 0 c).arrAt (8 : Fin 10) cfg0.N = move m c :=
  overwritten cfg0.N (fun n => (dats m 0 c).arrAt (8 : Fin 10) n) (move m c) _ (step_8 m c) fun i =>
    (covered (i 1).val (i 1).isLt).imp fun t h => (mem_8 t i).mpr h
/-- and the rotation's is `turn`. -/
theorem final_9 (c : Dev nD) : (dats m 0 c).arrAt (9 : Fin 10) cfg0.N = turn m c :=
  overwritten cfg0.N (fun n => (dats m 0 c).arrAt (9 : Fin 10) n) (turn m c) _ (step_9 m c) fun i =>
    (covered (i 1).val (i 1).isLt).imp fun t h => (mem_9 t i).mpr h

end Cert.KernelValue

end
-- ==== Proof.Host.lean ====
/-
  The host lines around the region: what the region finds in the arrays it stages, of the launch's arguments, and what the
  results hold, of the arrays the region leaves.
-/
module

public import proofs.«01_k».proof.Proof.Run
public import Idealize.ShloMosaic.Lib.StableHlo.Run

@[expose] public section

noncomputable section

namespace Cert.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The points, transposed. -/
theorem V_v0 (c : Dev nD) : V m c main_v0 = transpose S3x1000000 [1, 0] (m ((c : Thread nD τ).loc main_arg0)) transposes_S1000000x3_S3x1000000_1_0 := by
  show StableHlo.after hostOps0 (fun b => m (c, b)) (Proc.devRef .tc main_v0) = _
  after_results_simp <;> rfl

/-- The first layer's weights, transposed. -/
theorem V_v1 (c : Dev nD) : V m c main_v1 = transpose S64x3 [1, 0] (m ((c : Thread nD τ).loc main_arg1)) transposes_S3x64_S64x3_1_0 := by
  show StableHlo.after hostOps0 (fun b => m (c, b)) (Proc.devRef .tc main_v1) = _
  after_results_simp <;> rfl

/-- The second layer's weights, transposed. -/
theorem V_v2 (c : Dev nD) : V m c main_v2 = transpose S7x64 [1, 0] (m ((c : Thread nD τ).loc main_arg3)) transposes_S64x7_S7x64_1_0 := by
  show StableHlo.after hostOps0 (fun b => m (c, b)) (Proc.devRef .tc main_v2) = _
  after_results_simp <;> rfl

/-- The first layer's bias, a column. -/
theorem V_v3 (c : Dev nD) : V m c main_v3 = shapeCast S64x1 (m ((c : Thread nD τ).loc main_arg2)) shapeCasts_S64_S64x1 := by
  show StableHlo.after hostOps0 (fun b => m (c, b)) (Proc.devRef .tc main_v3) = _
  after_results_simp <;> rfl

/-- The second layer's bias, a column. -/
theorem V_v4 (c : Dev nD) : V m c main_v4 = shapeCast S7x1 (m ((c : Thread nD τ).loc main_arg4)) shapeCasts_S7_S7x1 := by
  show StableHlo.after hostOps0 (fun b => m (c, b)) (Proc.devRef .tc main_v4) = _
  after_results_simp <;> rfl

/-- The box's lower corner, a column. -/
theorem V_v5 (c : Dev nD) : V m c main_v5 = shapeCast S3x1 (m ((c : Thread nD τ).loc main_arg5)) shapeCasts_S3_S3x1 := by
  show StableHlo.after hostOps0 (fun b => m (c, b)) (Proc.devRef .tc main_v5) = _
  after_results_simp <;> rfl

/-- The reciprocals of the box's extents, a column. -/
theorem V_v9 (c : Dev nD) : V m c main_v9 = (Host.divf
    (broadcastInDim S3x1 ![] bcast_S_S3x1 (constant S_ .f32 0x3F800000#32 : FVec Ideal S_ .f32))
    (subf (shapeCast S3x1 (m ((c : Thread nD τ).loc main_arg6)) shapeCasts_S3_S3x1) (shapeCast S3x1 (m ((c : Thread nD τ).loc main_arg5)) shapeCasts_S3_S3x1) : FVec Ideal S3x1 .f32) : FVec Ideal S3x1 .f32) := by
  show StableHlo.after hostOps0 (fun b => m (c, b)) (Proc.devRef .tc main_v9) = _
  after_results_simp <;> rfl

/-- What the region leaves in the arrays the later lines read. -/
theorem left_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c (V0 m c) _ w

/-- The mask: where the word is not zero. -/
theorem W_v14 (c : Dev nD) : Pipeline.afterTail₀ cfgs (dats m) 0 (V0 m) [hostOps1] c main_v14 = shapeCast S1000000 (cmpi .ne (mask m c) (broadcastInDim S1x1000000 ![] bcast_S_S1x1000000 (constantI S_ 32 0#32))) shapeCasts_S1x1000000_S1000000 := by
  show StableHlo.after hostOps1 (Pipeline.withArrays spec0 c (V0 m c) fun w => (dats m 0 c).arrAt w cfg0.N) (Proc.devRef .tc main_v14) = _
  after_results_simp
  exact congrArg (fun a : S1x1000000.Idx → BitVec 32 => shapeCast S1000000 (cmpi .ne a (broadcastInDim S1x1000000 ![] bcast_S_S1x1000000 (constantI S_ 32 0#32))) shapeCasts_S1x1000000_S1000000)
    ((left_arr m c 7).trans (final_7 m c))

/-- The displacement, transposed. -/
theorem W_v15 (c : Dev nD) : Pipeline.afterTail₀ cfgs (dats m) 0 (V0 m) [hostOps1] c main_v15 = transpose S1000000x3 [1, 0] (move m c) transposes_S3x1000000_S1000000x3_1_0 := by
  show StableHlo.after hostOps1 (Pipeline.withArrays spec0 c (V0 m c) fun w => (dats m 0 c).arrAt w cfg0.N) (Proc.devRef .tc main_v15) = _
  after_results_simp
  exact congrArg (fun a : S3x1000000.Idx → EReal => transpose S1000000x3 [1, 0] a transposes_S3x1000000_S1000000x3_1_0)
    ((left_arr m c 8).trans (final_8 m c))

/-- The rotation, transposed. -/
theorem W_v16 (c : Dev nD) : Pipeline.afterTail₀ cfgs (dats m) 0 (V0 m) [hostOps1] c main_v16 = transpose S1000000x4 [1, 0] (turn m c) transposes_S4x1000000_S1000000x4_1_0 := by
  show StableHlo.after hostOps1 (Pipeline.withArrays spec0 c (V0 m c) fun w => (dats m 0 c).arrAt w cfg0.N) (Proc.devRef .tc main_v16) = _
  after_results_simp
  exact congrArg (fun a : S4x1000000.Idx → EReal => transpose S1000000x4 [1, 0] a transposes_S4x1000000_S1000000x4_1_0)
    ((left_arr m c 9).trans (final_9 m c))

end Cert.KernelValue

end
-- ==== Proof.Reference.lean ====
/-
  The reference at an index. Its three results, of arguments `x`, `W1`, `b1`, `W2`, `b2`, `lo`, `hi`: with `quotient x lo hi q`
  the point of row `q` scaled by division, the mask's bit is `inBox` of it, and the two outputs select between the network's
  outputs `net` at it and the values written outside the box.
-/
module

public import proofs.«01_k».proof.Proof.Columns
public import proofs.«01_k».proof.Proof.Gen.ReferenceIdeal
public import Idealize.ShloMosaic.Lib.StackMember
public import Idealize.ShloMosaic.Lib.IdealHost

@[expose] public section

noncomputable section

namespace Cert.ReferenceValue

open Cert.ReferenceIdeal Cert.ReferenceIdeal.Gen
open Idealize.ShloMosaic Idealize.ShloMosaic.ValueIdx
open Cert.KernelValue (inBox unitRot test_eq cmp_at)

/-! ## The functions of one row -/

/-- Row `q` scaled into the box by division. -/
def quotient (x : S1000000x3.Idx → EReal) (lo hi : S3.Idx → EReal) (q : Fin 1000000) (k : Fin 3) : EReal :=
  Ideal.div (x (ix2 q k) - lo (ix1 k)) (hi (ix1 k) - lo (ix1 k))

/-- The two-layer network at a scaled point. -/
def net (p : Fin 3 → EReal) (W1 : S3x64.Idx → EReal) (b1 : S64.Idx → EReal) (W2 : S64x7.Idx → EReal) (b2 : S7.Idx → EReal)
    (o : Fin 7) : EReal :=
  (∑ h : Fin 64, max ((∑ k : Fin 3, p k * W1 (ix2 k h)) + b1 (ix1 h)) 0 * W2 (ix2 h o)) + b2 (ix1 o)

/-! ## The reference's terms -/

section Terms
variable (x : FVec Ideal S1000000x3 .f32) (W1 : FVec Ideal S3x64 .f32) (b1 : FVec Ideal S64 .f32) (W2 : FVec Ideal S64x7 .f32)
  (b2 : FVec Ideal S7 .f32) (lo hi : FVec Ideal S3 .f32)

/-- The scaled points. -/
def points : FVec Ideal S1000000x3 .f32 :=
  Host.divf (subf x (broadcastInDim S1000000x3 ![0, 1] bcast_S1x3_S1000000x3_0_1 (broadcastInDim S1x3 ![1] bcast_S3_S1x3_1 lo)))
    (broadcastInDim S1000000x3 ![0, 1] bcast_S1x3_S1000000x3_0_1 (broadcastInDim S1x3 ![1] bcast_S3_S1x3_1 (subf hi lo)))

/-- The two-sided test of every coordinate. -/
def tests : IVec S1000000x3 1 :=
  andi (cmpf .oge (points x lo hi) (broadcastInDim S1000000x3 ![] bcast_S_S1000000x3 (constant S_ .f32 0x00000000#32)))
    (cmpf .ole (points x lo hi) (broadcastInDim S1000000x3 ![] bcast_S_S1000000x3 (constant S_ .f32 0x3F800000#32)))

/-- The mask. -/
def maskTerm : IVec S1000000 1 :=
  Host.reduce IntOp.andi (tests x lo hi) (constantI S_ 1 1#1) reducesTo_S1000000x3_S1000000_d1 h_S_

/-- The hidden layer. -/
def hiddenTerm : FVec Ideal S1000000x64 .f32 :=
  maximumf (addf (Host.dotGeneral dot_S1000000x3_S3x64_S1000000x64_1_0_0_1_n_n none (points x lo hi) W1)
      (broadcastInDim S1000000x64 ![0, 1] bcast_S1x64_S1000000x64_0_1 (broadcastInDim S1x64 ![1] bcast_S64_S1x64_1 b1)))
    (broadcastInDim S1000000x64 ![] bcast_S_S1000000x64 (constant S_ .f32 0x00000000#32))

/-- The network's outputs. -/
def outputs : FVec Ideal S1000000x7 .f32 :=
  addf (Host.dotGeneral dot_S1000000x64_S64x7_S1000000x7_1_0_0_1_n_n none (hiddenTerm x W1 b1 lo hi) W2)
    (broadcastInDim S1000000x7 ![0, 1] bcast_S1x7_S1000000x7_0_1 (broadcastInDim S1x7 ![1] bcast_S7_S1x7_1 b2))

/-- The displacement. -/
def moveTerm : FVec Ideal S1000000x3 .f32 :=
  select (broadcastInDim S1000000x3 ![0, 1] bcast_S1000000x1_S1000000x3_0_1
      (broadcastInDim S1000000x1 ![0] bcast_S1000000_S1000000x1_0 (maskTerm x lo hi)))
    (extractStridedSlice S1000000x3 ![0, 0] (outputs x W1 b1 W2 b2 lo hi) slices_S1000000x7_S1000000x3_0_0)
    (broadcastInDim S1000000x3 ![1] bcast_S3_S1000000x3_1 (broadcastInDim S3 ![] bcast_S_S3 (constant S_ .f32 0x00000000#32)))

/-- The rotation. -/
def turnTerm : FVec Ideal S1000000x4 .f32 :=
  select (broadcastInDim S1000000x4 ![0, 1] bcast_S1000000x1_S1000000x4_0_1
      (broadcastInDim S1000000x1 ![0] bcast_S1000000_S1000000x1_0 (maskTerm x lo hi)))
    (extractStridedSlice S1000000x4 ![0, 3] (outputs x W1 b1 W2 b2 lo hi) slices_S1000000x7_S1000000x4_0_3)
    (broadcastInDim S1000000x4 ![1] bcast_S4_S1000000x4_1 (fun i => FloatOps.ofBits .f32 (lit0 (S4.rowMajor i))))

/-! ## Read at an index -/

/-- A vector broadcast into every row reads, at `(q, k)`, the vector at `k`. -/
theorem row_broadcast {α : Type} {a n : ℕ} (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![a, n]⟩ ![0, 1])
    (q : Fin a) (k : Fin n) :
    broadcastInDim ⟨2, ![a, n]⟩ ![0, 1] h2 (broadcastInDim ⟨2, ![1, n]⟩ ![1] h1 v) (ix2 q k) = v (ix1 k) := by
  have e : k.val = if n = 1 then 0 else k.val := by
    split
    · have := k.isLt; omega
    · rfl
  rw [broadcastInDim_apply ![0, 1] h2 _ (ix2 q k) (ix2 (0 : Fin 1) k) fun a => by
    match a with
    | ⟨0, _⟩ => rfl
    | ⟨1, _⟩ => exact e]
  refine broadcastInDim_apply ![1] h1 v (ix2 (0 : Fin 1) k) (ix1 k) fun a => ?_
  match a with
  | ⟨0, _⟩ => exact e

/-- A vector over the rows broadcast along the columns reads, at `(q, k)`, the vector at `q`. -/
theorem column_broadcast {α : Type} {a n : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, n]⟩ ![0, 1])
    (q : Fin a) (k : Fin n) :
    broadcastInDim ⟨2, ![a, n]⟩ ![0, 1] h2 (broadcastInDim ⟨2, ![a, 1]⟩ ![0] h1 v) (ix2 q k) = v (ix1 q) := by
  have e : q.val = if a = 1 then 0 else q.val := by
    split
    · have := q.isLt; omega
    · rfl
  rw [broadcastInDim_apply ![0, 1] h2 _ (ix2 q k) (ix2 q (0 : Fin 1)) fun a => by
    match a with
    | ⟨0, _⟩ => exact e
    | ⟨1, _⟩ => rfl]
  refine broadcastInDim_apply ![0] h1 v (ix2 q (0 : Fin 1)) (ix1 q) fun a => ?_
  match a with
  | ⟨0, _⟩ => exact e

/-- A scaled coordinate. -/
theorem points_apply (q : Fin 1000000) (k : Fin 3) : points x lo hi (ix2 q k) = quotient x lo hi q k := by
  unfold points quotient
  rw [hostDivf_apply, subf_apply, row_broadcast, row_broadcast, subf_apply]

/-- A coordinate's test. -/
theorem tests_apply (q : Fin 1000000) (k : Fin 3) :
    tests x lo hi (ix2 q k) = BitVec.ofBool (decide (0 ≤ quotient x lo hi q k ∧ quotient x lo hi q k ≤ 1)) := by
  refine Eq.trans ?_ (test_eq _)
  exact congrArg₂ IntOp.andi (cmp_at .oge _ _ _ _ _ (points_apply x lo hi q k) Ideal.ofBits_zero_f32)
    (cmp_at .ole _ _ _ _ _ (points_apply x lo hi q k) Ideal.ofBits_one_f32)

/-- The conjunction of three bits, folded from a one, is the bit of the conjunction. -/
theorem and_fold (P : Fin 3 → Prop) [DecidablePred P] :
    (Finset.univ : Finset (Fin 3)).fold IntOp.andi 1#1 (fun k => BitVec.ofBool (decide (P k))) = BitVec.ofBool (decide (∀ k, P k)) := by
  have e : decide (∀ k, P k) = (decide (P 0) && (decide (P 1) && decide (P 2))) := by
    by_cases h0 : P 0 <;> by_cases h1 : P 1 <;> by_cases h2 : P 2 <;> simp [Fin.forall_fin_succ, h0, h1, h2]
  have u : (Finset.univ : Finset (Fin 3)) = {0, 1, 2} := by decide
  rw [e, u, Finset.fold_insert (by decide), Finset.fold_insert (by decide), Finset.fold_singleton]
  generalize decide (P 0) = a
  generalize decide (P 1) = b
  generalize decide (P 2) = c
  cases a <;> cases b <;> cases c <;> rfl

/-- The reduced axis of the tests. -/
theorem tests_reduces : S1000000x3.Reduces [1] S1000000 := by decide

/-- The mask's bit of a row. -/
theorem mask_apply (q : Fin 1000000) : maskTerm x lo hi (ix1 q) = inBox (quotient x lo hi q) := by
  unfold maskTerm inBox
  refine (Host.reduce_eq_fold_single IntOp.andi _ _ reducesTo_S1000000x3_S1000000_d1 tests_reduces h_S_ (ix1 q)).trans ?_
  refine Eq.trans ?_ (and_fold fun k => 0 ≤ quotient x lo hi q k ∧ quotient x lo hi q k ≤ 1)
  refine congrArg (fun f => Finset.fold IntOp.andi 1#1 f (Finset.univ : Finset (Fin 3))) (funext fun k => ?_)
  refine Eq.trans (congrArg (tests x lo hi) (funext fun a => ?_)) (tests_apply x lo hi q k)
  match a with
  | ⟨0, _⟩ => rfl
  | ⟨1, _⟩ => rfl

/-- The hidden layer of a row. -/
theorem hidden_apply (q : Fin 1000000) (h : Fin 64) :
    hiddenTerm x W1 b1 lo hi (ix2 q h) = max ((∑ k : Fin 3, quotient x lo hi q k * W1 (ix2 k h)) + b1 (ix1 h)) 0 := by
  unfold hiddenTerm
  rw [maximumf_apply, addf_apply, row_broadcast]
  refine congrArg₂ max (congrArg (· + b1 (ix1 h)) ?_) Ideal.ofBits_zero_f32
  refine (StackMember.dotGeneral_plain_apply (m := 1000000) (k := 3) (n := 64) none (points x lo hi) W1 q h).trans ?_
  exact Finset.sum_congr rfl fun k _ => by rw [points_apply]

/-- The network's outputs of a row. -/
theorem outputs_apply (q : Fin 1000000) (o : Fin 7) :
    outputs x W1 b1 W2 b2 lo hi (ix2 q o) = net (quotient x lo hi q) W1 b1 W2 b2 o := by
  unfold outputs net
  rw [addf_apply, row_broadcast]
  refine congrArg (· + b2 (ix1 o)) ?_
  refine (StackMember.dotGeneral_plain_apply (m := 1000000) (k := 64) (n := 7) none (hiddenTerm x W1 b1 lo hi) W2 q o).trans ?_
  exact Finset.sum_congr rfl fun h _ => by rw [hidden_apply]

/-- The displacement of a row. -/
theorem move_apply (q : Fin 1000000) (i : Fin 3) : moveTerm x W1 b1 W2 b2 lo hi (ix2 q i)
    = Scalar.select (inBox (quotient x lo hi q)) (net (quotient x lo hi q) W1 b1 W2 b2 (i.castLE (by decide))) (0 : EReal) := by
  unfold moveTerm
  rw [select_apply, column_broadcast, mask_apply,
    slice2_axis1_apply (n0 := 1000000) (n1 := 7) (j := i) (k := i.castLE (by decide)) (hk := (Nat.zero_add _).symm), outputs_apply]
  exact congrArg _ Ideal.ofBits_zero_f32

/-- The rotation of a row. -/
theorem turn_apply (q : Fin 1000000) (i : Fin 4) : turnTerm x W1 b1 W2 b2 lo hi (ix2 q i)
    = Scalar.select (inBox (quotient x lo hi q)) (net (quotient x lo hi q) W1 b1 W2 b2 (i.natAdd 3)) (unitRot i) := by
  unfold turnTerm
  rw [select_apply, column_broadcast, mask_apply,
    slice2_axis1_apply (n0 := 1000000) (n1 := 7) (j := i) (k := i.natAdd 3) (hk := rfl), outputs_apply]
  refine congrArg _ ?_
  rw [broadcastInDim_apply ![1] bcast_S4_S1000000x4_1 _ (ix2 q i) (ix1 i) fun a => by
    match a with
    | ⟨0, _⟩ => rfl]
  have e : S4.rowMajor (ix1 i) = i := Fin.ext (Shape.rowMajor_val_one (ix1 i))
  show FloatOps.ofBits (F := Ideal) .f32 (lit0 (S4.rowMajor (ix1 i))) = unitRot i
  rw [e]
  unfold unitRot
  fin_cases i
  · exact Ideal.ofBits_one_f32
  · exact Ideal.ofBits_zero_f32
  · exact Ideal.ofBits_zero_f32
  · exact Ideal.ofBits_zero_f32

end Terms

end Cert.ReferenceValue

end
-- ==== Proof.Equation.lean ====
/-
  The equation. The kernel multiplies by the reciprocal of the box's extent where the reference divides by the extent; the two
  agree except at zero over zero, which the precondition excludes. The weights' products come in the other order, and the bias,
  the maximum and the selection are the same. So the kernel's three results are the reference's.
-/
module

public import proofs.«01_k».proof.Proof.Host
public import proofs.«01_k».proof.Proof.Reference
public import proofs.«01_k».proof.Proof.Gen.Pre_no_zero_over_zero
public import Idealize.ShloMosaic.Lib.ValueLayoutCasts

@[expose] public section

noncomputable section

namespace Cert.KernelValue

open Cert.KernelIdeal Cert.KernelIdeal.Gen
open Idealize.ShloMosaic Idealize.ShloMosaic.TcCoe Idealize.ShloMosaic.ValueIdx
open Idealize.SL Idealize.SL.Sem
open Cert.ReferenceValue (quotient net maskTerm moveTerm turnTerm mask_apply move_apply turn_apply)

/-- Multiplying by the reciprocal is dividing, unless both numbers are zero. -/
theorem times_reciprocal (a d : EReal) (h : a ≠ 0 ∨ d ≠ 0) : a * Ideal.div 1 d = Ideal.div a d := by
  unfold Ideal.div
  by_cases hd : d = 0
  · have ha : a ≠ 0 := h.resolve_right fun hh => hh hd
    rw [if_pos hd, if_pos hd, if_pos zero_lt_one]
    by_cases hp : 0 < a
    · rw [if_pos hp, EReal.mul_top_of_pos hp]
    · rw [if_neg hp, EReal.mul_top_of_neg (lt_of_le_of_ne (not_lt.mp hp) ha)]
  · rw [if_neg hd, if_neg hd, one_mul]

section Args
variable (x : FVec Ideal S1000000x3 .f32) (W1 : FVec Ideal S3x64 .f32) (b1 : FVec Ideal S64 .f32) (W2 : FVec Ideal S64x7 .f32)
  (b2 : FVec Ideal S7 .f32) (lo hi : FVec Ideal S3 .f32)

/-- The precondition, read at a coordinate: numerator and denominator are not both zero. -/
theorem not_both_zero (h : Cert.Pre_no_zero_over_zero.fn x W1 b1 W2 b2 lo hi = fun _ => 1#1) (q : Fin 1000000) (k : Fin 3) :
    x (ix2 q k) - lo (ix1 k) ≠ 0 ∨ hi (ix1 k) - lo (ix1 k) ≠ 0 := by
  have e := congrFun h (ix2 q k)
  have en := cmp_at .une (subf x (broadcastInDim S1000000x3 ![0, 1] Cert.Pre_no_zero_over_zero.Gen.bcast_S1x3_S1000000x3_0_1
      (broadcastInDim Cert.ReferenceIdeal.S1x3 ![1] Cert.Pre_no_zero_over_zero.Gen.bcast_S3_S1x3_1 lo)))
    (broadcastInDim S1000000x3 ![] Cert.Pre_no_zero_over_zero.Gen.bcast_S_S1000000x3 (constant S_ .f32 0x00000000#32)) (ix2 q k)
    (x (ix2 q k) - lo (ix1 k)) 0 (congrArg (x (ix2 q k) - ·) (Cert.ReferenceValue.row_broadcast lo _ _ q k)) Ideal.ofBits_zero_f32
  have ed := cmp_at .une (subf hi lo) (broadcastInDim S3 ![] Cert.Pre_no_zero_over_zero.Gen.bcast_S_S3 (constant S_ .f32 0x00000000#32)) (ix1 k)
    (hi (ix1 k) - lo (ix1 k)) 0 rfl Ideal.ofBits_zero_f32
  have eo := congrArg₂ IntOp.ori en ((Cert.ReferenceValue.row_broadcast
    (cmpf .une (subf hi lo) (broadcastInDim S3 ![] Cert.Pre_no_zero_over_zero.Gen.bcast_S_S3 (constant S_ .f32 0x00000000#32)))
    Cert.Pre_no_zero_over_zero.Gen.bcast_S3_S1x3_1 Cert.Pre_no_zero_over_zero.Gen.bcast_S1x3_S1000000x3_0_1 q k).trans ed)
  have e' := eo.symm.trans e
  by_contra hn
  rw [not_or, not_ne_iff, not_ne_iff] at hn
  rw [hn.1, hn.2] at e'
  simp [Ideal.cmp, IntOp.ori] at e'

/-- The arrays the region finds, of the arguments. -/
abbrev columnsOf : S3x1000000.Idx → EReal := transpose S3x1000000 [1, 0] x transposes_S1000000x3_S3x1000000_1_0
abbrev lowColumn : S3x1.Idx → EReal := shapeCast S3x1 lo shapeCasts_S3_S3x1
abbrev reciprocals : FVec Ideal S3x1 .f32 :=
  Host.divf (broadcastInDim S3x1 ![] bcast_S_S3x1 (constant S_ .f32 0x3F800000#32 : FVec Ideal S_ .f32))
    (subf (shapeCast S3x1 hi shapeCasts_S3_S3x1) (shapeCast S3x1 lo shapeCasts_S3_S3x1) : FVec Ideal S3x1 .f32)

/-- The reciprocal of an extent. -/
theorem reciprocals_apply (k : Fin 3) : reciprocals lo hi (ix2 k 0) = Ideal.div 1 (hi (ix1 k) - lo (ix1 k)) := by
  refine congrArg₂ Ideal.div Ideal.ofBits_one_f32 ?_
  exact congrArg₂ (· - ·) (shapeCast_a_a1_apply hi _ k 0) (shapeCast_a_a1_apply lo _ k 0)

/-- The kernel's scaled point is the reference's. -/
theorem at_eq (h : Cert.Pre_no_zero_over_zero.fn x W1 b1 W2 b2 lo hi = fun _ => 1#1) (q : Fin 1000000) :
    at_ (columnsOf x) (lowColumn lo) (reciprocals lo hi) q = quotient x lo hi q := by
  funext k
  refine Eq.trans ?_ (times_reciprocal _ _ (not_both_zero x W1 b1 W2 b2 lo hi h q k))
  refine congrArg₂ (· * ·) (congrArg₂ (· - ·) ?_ ?_) (reciprocals_apply lo hi k)
  · exact transpose_ix2_apply x _ k q
  · exact shapeCast_a_a1_apply lo _ k 0

/-- The kernel's network, of transposed weights and bias columns, is the reference's. -/
theorem residual_eq (p : Fin 3 → EReal) (o : Fin 7) :
    residual p (transpose S64x3 [1, 0] W1 transposes_S3x64_S64x3_1_0) (shapeCast S64x1 b1 shapeCasts_S64_S64x1)
      (transpose S7x64 [1, 0] W2 transposes_S64x7_S7x64_1_0) (shapeCast S7x1 b2 shapeCasts_S7_S7x1) o = net p W1 b1 W2 b2 o := by
  unfold residual linear net hidden
  refine congrArg₂ (· + ·) (Finset.sum_congr rfl fun h _ => ?_) (shapeCast_a_a1_apply b2 _ o 0)
  refine (mul_comm _ _).trans (congrArg₂ (· * ·) (congrArg (max · 0) (congrArg₂ (· + ·) ?_ (shapeCast_a_a1_apply b1 _ h 0)))
    (transpose_ix2_apply W2 _ o h))
  exact Finset.sum_congr rfl fun k _ => (mul_comm _ _).trans (congrArg (p k * ·) (transpose_ix2_apply W1 _ h k))

/-- Comparing a bit's word with zero gives the bit back. -/
theorem word_test (b : BitVec 1) : IntOp.cmpi .ne (b.setWidth 32) 0#32 = b := by
  rcases (by decide : ∀ b : BitVec 1, b = 0#1 ∨ b = 1#1) b with rfl | rfl <;> rfl

variable (h : Cert.Pre_no_zero_over_zero.fn x W1 b1 W2 b2 lo hi = fun _ => 1#1)

include h in
/-- The mask. -/
theorem mask_eq : (shapeCast S1000000 (cmpi .ne (maskOf (columnsOf x) (lowColumn lo) (reciprocals lo hi))
      (broadcastInDim S1x1000000 ![] bcast_S_S1x1000000 (constantI S_ 32 0#32))) shapeCasts_S1x1000000_S1000000 : IVec S1000000 1)
    = maskTerm x lo hi := by
  funext i
  rw [eq_ix1 i]
  refine (shapeCast_1a_a_apply _ _ _).trans ((word_test _).trans ?_)
  exact (congrArg inBox (at_eq x W1 b1 W2 b2 lo hi h (i 0))).trans (mask_apply x lo hi (i 0)).symm

/-- A network's output selected by the box test, of the kernel's scaled point and of the reference's. -/
theorem select_eq (q : Fin 1000000) (p : Fin 3 → EReal) (hp : p = quotient x lo hi q) (o : Fin 7) (z : EReal) :
    Scalar.select (inBox p) (residual p (transpose S64x3 [1, 0] W1 transposes_S3x64_S64x3_1_0)
        (shapeCast S64x1 b1 shapeCasts_S64_S64x1) (transpose S7x64 [1, 0] W2 transposes_S64x7_S7x64_1_0)
        (shapeCast S7x1 b2 shapeCasts_S7_S7x1) o) z
      = Scalar.select (inBox (quotient x lo hi q)) (net (quotient x lo hi q) W1 b1 W2 b2 o) z := by
  subst hp
  rw [residual_eq]

include h in
/-- The displacement. -/
theorem move_eq : (transpose S1000000x3 [1, 0] (moveOf (columnsOf x) (lowColumn lo) (reciprocals lo hi)
      (transpose S64x3 [1, 0] W1 transposes_S3x64_S64x3_1_0) (shapeCast S64x1 b1 shapeCasts_S64_S64x1)
      (transpose S7x64 [1, 0] W2 transposes_S64x7_S7x64_1_0) (shapeCast S7x1 b2 shapeCasts_S7_S7x1))
      transposes_S3x1000000_S1000000x3_1_0 : FVec Ideal S1000000x3 .f32) = moveTerm x W1 b1 W2 b2 lo hi := by
  funext i
  rw [eq_ix2 i]
  refine (transpose_ix2_apply _ _ (i 0) (i 1)).trans ?_
  exact (select_eq x W1 b1 W2 b2 lo hi (i 0) _ (at_eq x W1 b1 W2 b2 lo hi h (i 0)) _ _).trans
    (move_apply x W1 b1 W2 b2 lo hi (i 0) (i 1)).symm

include h in
/-- The rotation. -/
theorem turn_eq : (transpose S1000000x4 [1, 0] (turnOf (columnsOf x) (lowColumn lo) (reciprocals lo hi)
      (transpose S64x3 [1, 0] W1 transposes_S3x64_S64x3_1_0) (shapeCast S64x1 b1 shapeCasts_S64_S64x1)
      (transpose S7x64 [1, 0] W2 transposes_S64x7_S7x64_1_0) (shapeCast S7x1 b2 shapeCasts_S7_S7x1))
      transposes_S4x1000000_S1000000x4_1_0 : FVec Ideal S1000000x4 .f32) = turnTerm x W1 b1 W2 b2 lo hi := by
  funext i
  rw [eq_ix2 i]
  refine (transpose_ix2_apply _ _ (i 0) (i 1)).trans ?_
  exact (select_eq x W1 b1 W2 b2 lo hi (i 0) _ (at_eq x W1 b1 W2 b2 lo hi h (i 0)) _ _).trans
    (turn_apply x W1 b1 W2 b2 lo hi (i 0) (i 1)).symm

end Args

end Cert.KernelValue

end
-- ==== Proof.Value.lean ====
/-
  The claims about the reference's run and the equality of results: the kernel's three results, and the reference's, are the
  reference's terms of the launch's arguments.
-/
module

public import proofs.«01_k».proof.Proof.Equation
public import proofs.«01_k».proof.Proof.Gen.ReferenceIdeal.Run

@[expose] public section

noncomputable section

namespace Cert.KernelValue

open Cert.KernelIdeal Cert.KernelIdeal.Gen
open Idealize.ShloMosaic Idealize.ShloMosaic.TcCoe Idealize.ShloMosaic.ValueIdx
open Idealize.SL Idealize.SL.Sem
open Cert.ReferenceValue (maskTerm moveTerm turnTerm)

variable (m : (ℓ : Loc nD τ sig) → Buf (Elt Ideal) ℓ) (ρ : Dev nD → PrngReg)

/-- The three results on device `c`, of the launch's arguments. -/
abbrev maskAt (c : Dev nD) : IVec S1000000 1 :=
  maskTerm (m ((c : Thread nD τ).loc main_arg0)) (m ((c : Thread nD τ).loc main_arg5)) (m ((c : Thread nD τ).loc main_arg6))
abbrev moveAt (c : Dev nD) : FVec Ideal S1000000x3 .f32 :=
  moveTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
abbrev turnAt (c : Dev nD) : FVec Ideal S1000000x4 .f32 :=
  turnTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

section Kernel
variable (h : Cert.Pre_KernelIdeal_no_zero_over_zero m) (c : Dev nD)

include h in
/-- The kernel's mask after the run, -/
theorem result_14 : Pipeline.afterTail₀ cfgs (dats m) 0 (V0 m) [hostOps1] c main_v14 = maskAt m c := by
  rw [W_v14]
  unfold mask
  rw [V_v0, V_v5, V_v9]
  exact mask_eq _ _ _ _ _ _ _ (h c)

include h in
/-- its displacement, -/
theorem result_15 : Pipeline.afterTail₀ cfgs (dats m) 0 (V0 m) [hostOps1] c main_v15 = moveAt m c := by
  rw [W_v15]
  unfold move
  rw [V_v0, V_v5, V_v9, V_v1, V_v3, V_v2, V_v4]
  exact move_eq _ _ _ _ _ _ _ (h c)

include h in
/-- and its rotation. -/
theorem result_16 : Pipeline.afterTail₀ cfgs (dats m) 0 (V0 m) [hostOps1] c main_v16 = turnAt m c := by
  rw [W_v16]
  unfold turn
  rw [V_v0, V_v5, V_v9, V_v1, V_v3, V_v2, V_v4]
  exact turn_eq _ _ _ _ _ _ _ (h c)

end Kernel

/-- The frame of the reference. -/
theorem reference_quiescent : Cert.quiescent_ReferenceIdeal (hReferenceIdeal := Cert.ReferenceIdeal.Gen.facts) := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- THE VALUES: under the precondition, kernel and reference end with the same three results. -/
theorem algebraic : Cert.algebraic_KernelIdeal_ReferenceIdeal_pre_no_zero_over_zero (hKernelIdeal := Cert.KernelIdeal.Gen.facts)
    (hReferenceIdeal := Cert.ReferenceIdeal.Gen.facts) (hPre_no_zero_over_zero := Cert.Pre_no_zero_over_zero.Gen.facts) := by
  intro m g m' g' hpre hargs
  refine ⟨maskAt m, moveAt m, turnAt m, ?_, ?_⟩
  · refine (θ_run defs _ _).mono (fun r h c => ⟨?_, ?_, ?_, args_kept m h.1 c⟩) (run_main m g)
    · exact (rest m main_v14 (by decide) (by decide) h.1 c).trans (result_14 m hpre c)
    · exact (rest m main_v15 (by decide) (by decide) h.1 c).trans (result_15 m hpre c)
    · exact (rest m main_v16 (by decide) (by decide) h.1 c).trans (result_16 m hpre c)
  · refine (θ_run Cert.ReferenceIdeal.defs _ _).mono (fun r h c => ⟨?_, ?_, ?_, (h c).2.2.2⟩)
      (Cert.ReferenceIdeal.Value.run (F := Ideal) m' g')
    all_goals obtain ⟨e0, e1, e2, e3, e4, e5, e6⟩ := hargs c
    · refine (h c).1.trans ?_
      rw [e0, e5, e6]; rfl
    · refine (h c).2.1.trans ?_
      rw [e0, e1, e2, e3, e4, e5, e6]; rfl
    · refine (h c).2.2.1.trans ?_
      rw [e0, e1, e2, e3, e4, e5, e6]; rfl

end Cert.KernelValue

end
-- ==== Proof.lean ====
/-
  The claims, put together: the frames of the kernel, the ideal kernel and the ideal reference, and the equality of the two
  ideal programs' results where no coordinate is at zero over zero.
-/
module

public import proofs.«01_k».proof.Proof.Gen.Pre_no_zero_over_zero
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim: the frames, with and without the precondition, the ideal kernel as the kernel's reading, and the values. -/
theorem claim : Cert.Claim :=
  ⟨Cert.Kernel.Gen.facts, Cert.KernelIdeal.Gen.facts, Cert.ReferenceIdeal.Gen.facts, Cert.Pre_no_zero_over_zero.Gen.facts,
    Cert.KernelFrame.quiescent, Cert.KernelValue.quiescent, fun m g _ => Cert.KernelValue.quiescent m g trivial,
    Cert.KernelValue.reference_quiescent, fun m g _ => Cert.KernelValue.reference_quiescent m g trivial, trivial,
    Cert.KernelValue.algebraic⟩

end Cert.Proof

end
